-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S2x1024x1024 : Shape := ⟨3, ![2, 1024, 1024]⟩
abbrev S2x128x1024 : Shape := ⟨3, ![2, 128, 1024]⟩
abbrev S4x256x4096 : Shape := ⟨3, ![4, 256, 4096]⟩
abbrev S3 : Shape := ⟨1, ![3]⟩
abbrev S2 : Shape := ⟨1, ![2]⟩
abbrev S4x2 : Shape := ⟨2, ![4, 2]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x1 : Shape := ⟨2, ![1, 1]⟩
abbrev S1x128x4096 : Shape := ⟨3, ![1, 128, 4096]⟩
abbrev S128x4096 : Shape := ⟨2, ![128, 4096]⟩
abbrev S128x1024 : Shape := ⟨2, ![128, 1024]⟩
abbrev S1x128x1024 : Shape := ⟨3, ![1, 128, 1024]⟩
abbrev S1x256x4096 : Shape := ⟨3, ![1, 256, 4096]⟩
abbrev S256x4096 : Shape := ⟨2, ![256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S512x4096, .bf16⟩
  | .hbm, ⟨1, _⟩ => ⟨S4096x1024, .f32⟩
  | .hbm, ⟨2, _⟩ => ⟨S4096x1024, .f32⟩
  | .local _ .vmem, ⟨0, _⟩ => ⟨S512x4096, .bf16⟩
  | .local _ .vmem, ⟨1, _⟩ => ⟨S4096x1024, .bf16⟩
  | .local _ .vmem, ⟨2, _⟩ => ⟨S2x1024x1024, .f32⟩
  | .local _ .vmem, ⟨3, _⟩ => ⟨S2x128x1024, .f32⟩
  | .local _ .vmem, ⟨4, _⟩ => ⟨S4x256x4096, .bf16⟩
  | .local _ .vmem, ⟨5, _⟩ => ⟨S4x256x4096, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_16 : BitVec 32 := 1#32
  let v21 : BitVec 32 := Scalar.muli v7 c1_i32_16
  let v22 : BitVec 32 := Scalar.addi c0_i32_17 v21
  v22.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_19 : BitVec 32 := 1#32
  let v23 : BitVec 32 := Scalar.muli v4 c1_i32_19
  let v24 : BitVec 32 := Scalar.addi c0_i32_20 v23
  v24.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_28 : BitVec 32 := 1#32
  let v27 : BitVec 32 := Scalar.muli v4 c1_i32_28
  let v28 : BitVec 32 := Scalar.addi c0_i32_29 v27
  v28.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_39 : BitVec 32 := 1#32
  let v36 : BitVec 32 := Scalar.muli v7 c1_i32_39
  let v37 : BitVec 32 := Scalar.addi c0_i32_40 v36
  v37.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_49 : BitVec 32 := 1#32
  let v45 : BitVec 32 := Scalar.muli v4 c1_i32_49
  let v46 : BitVec 32 := Scalar.addi c0_i32_50 v45
  v46.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_59 : BitVec 32 := 1#32
  let v54 : BitVec 32 := Scalar.muli v7 c1_i32_59
  let v55 : BitVec 32 := Scalar.addi c0_i32_60 v54
  v55.toNat
def k0_off1 (d0 : Dev nD) (c0_i32_113 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v117 : BitVec 32 := Scalar.muli v2 c512_i32
  let v118 : BitVec 32 := Scalar.addi v117 c0_i32_113
  let c0_i32_127 : BitVec 32 := 0#32
  ![v118.toNat, 0]
def k0_dev7 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_247 : BitVec 32 := 1#32
  let v260 : BitVec 32 := Scalar.muli v4 c1_i32_247
  let v261 : BitVec 32 := Scalar.addi c0_i32_248 v260
  v261.toNat
def k0_dev8 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_259 : BitVec 32 := 1#32
  let v270 : BitVec 32 := Scalar.muli v7 c1_i32_259
  let v271 : BitVec 32 := Scalar.addi c0_i32_260 v270
  v271.toNat
def k0_off2 (d0 : Dev nD) (c1_i32_195 : BitVec 32) (c0_i32_272 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_194 : BitVec 32 := 8#32
  let v231 : BitVec 32 := Scalar.addi v2 c8_i32_194
  let v232 : BitVec 32 := Scalar.subi v231 c1_i32_195
  let c8_i32_196 : BitVec 32 := 8#32
  let v233 : BitVec 32 := Scalar.remsi v232 c8_i32_196
  let c512_i32_271 : BitVec 32 := 512#32
  let v286 : BitVec 32 := Scalar.muli v233 c512_i32_271
  let v287 : BitVec 32 := Scalar.addi v286 c0_i32_272
  let c0_i32_290 : BitVec 32 := 0#32
  ![v287.toNat, 0]
def k0_off3 (d0 : Dev nD) (c1_i32_197 : BitVec 32) (c0_i32_295 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v234 : BitVec 32 := Scalar.addi v2 c1_i32_197
  let c8_i32_198 : BitVec 32 := 8#32
  let v235 : BitVec 32 := Scalar.remsi v234 c8_i32_198
  let c512_i32_293 : BitVec 32 := 512#32
  let v316 : BitVec 32 := Scalar.muli v235 c512_i32_293
  let c256_i32_294 : BitVec 32 := 256#32
  let v317 : BitVec 32 := Scalar.addi v316 c256_i32_294
  let v318 : BitVec 32 := Scalar.addi v317 c0_i32_295
  let c0_i32_313 : BitVec 32 := 0#32
  ![v318.toNat, 0]
def k0_dev9 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_364 : BitVec 32 := 1#32
  let v371 : BitVec 32 := Scalar.muli v4 c1_i32_364
  let v372 : BitVec 32 := Scalar.addi c0_i32_365 v371
  v372.toNat
def k0_dev10 (d0 : Dev nD) : Nat :=
  let c0_i32_377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_376 : BitVec 32 := 1#32
  let v381 : BitVec 32 := Scalar.muli v7 c1_i32_376
  let v382 : BitVec 32 := Scalar.addi c0_i32_377 v381
  v382.toNat
def k0_dev11 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_489 : BitVec 32 := 1#32
  let v491 : BitVec 32 := Scalar.muli v4 c1_i32_489
  let v492 : BitVec 32 := Scalar.addi c0_i32_490 v491
  v492.toNat
def k0_dev12 (d0 : Dev nD) : Nat :=
  let c0_i32_502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_501 : BitVec 32 := 1#32
  let v501 : BitVec 32 := Scalar.muli v7 c1_i32_501
  let v502 : BitVec 32 := Scalar.addi c0_i32_502 v501
  v502.toNat
def k0_dev13 (d0 : Dev nD) : Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_609 : BitVec 32 := 1#32
  let v606 : BitVec 32 := Scalar.muli v4 c1_i32_609
  let v607 : BitVec 32 := Scalar.addi c0_i32_610 v606
  v607.toNat
def k0_dev14 (d0 : Dev nD) : Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_621 : BitVec 32 := 1#32
  let v616 : BitVec 32 := Scalar.muli v7 c1_i32_621
  let v617 : BitVec 32 := Scalar.addi c0_i32_622 v616
  v617.toNat
def k0_dev15 (d0 : Dev nD) : Nat :=
  let c0_i32_736 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_735 : BitVec 32 := 1#32
  let v726 : BitVec 32 := Scalar.muli v4 c1_i32_735
  let v727 : BitVec 32 := Scalar.addi c0_i32_736 v726
  v727.toNat
def k0_dev16 (d0 : Dev nD) : Nat :=
  let c0_i32_748 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_747 : BitVec 32 := 1#32
  let v736 : BitVec 32 := Scalar.muli v7 c1_i32_747
  let v737 : BitVec 32 := Scalar.addi c0_i32_748 v736
  v737.toNat
def k0_dev17 (d0 : Dev nD) : Nat :=
  let c0_i32_856 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_855 : BitVec 32 := 1#32
  let v841 : BitVec 32 := Scalar.muli v4 c1_i32_855
  let v842 : BitVec 32 := Scalar.addi c0_i32_856 v841
  v842.toNat
def k0_dev18 (d0 : Dev nD) : Nat :=
  let c0_i32_868 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_867 : BitVec 32 := 1#32
  let v851 : BitVec 32 := Scalar.muli v7 c1_i32_867
  let v852 : BitVec 32 := Scalar.addi c0_i32_868 v851
  v852.toNat
def k0_dev19 (d0 : Dev nD) : Nat :=
  let c0_i32_981 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_980 : BitVec 32 := 1#32
  let v961 : BitVec 32 := Scalar.muli v4 c1_i32_980
  let v962 : BitVec 32 := Scalar.addi c0_i32_981 v961
  v962.toNat
def k0_dev20 (d0 : Dev nD) : Nat :=
  let c0_i32_993 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_992 : BitVec 32 := 1#32
  let v971 : BitVec 32 := Scalar.muli v7 c1_i32_992
  let v972 : BitVec 32 := Scalar.addi c0_i32_993 v971
  v972.toNat
def k0_dev21 (d0 : Dev nD) : Nat :=
  let c0_i32_1102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1101 : BitVec 32 := 1#32
  let v1076 : BitVec 32 := Scalar.muli v4 c1_i32_1101
  let v1077 : BitVec 32 := Scalar.addi c0_i32_1102 v1076
  v1077.toNat
def k0_dev22 (d0 : Dev nD) : Nat :=
  let c0_i32_1114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1113 : BitVec 32 := 1#32
  let v1086 : BitVec 32 := Scalar.muli v7 c1_i32_1113
  let v1087 : BitVec 32 := Scalar.addi c0_i32_1114 v1086
  v1087.toNat
def k0_dev23 (d0 : Dev nD) : Nat :=
  let c0_i32_1227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1226 : BitVec 32 := 1#32
  let v1196 : BitVec 32 := Scalar.muli v4 c1_i32_1226
  let v1197 : BitVec 32 := Scalar.addi c0_i32_1227 v1196
  v1197.toNat
def k0_dev24 (d0 : Dev nD) : Nat :=
  let c0_i32_1239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1238 : BitVec 32 := 1#32
  let v1206 : BitVec 32 := Scalar.muli v7 c1_i32_1238
  let v1207 : BitVec 32 := Scalar.addi c0_i32_1239 v1206
  v1207.toNat
def k0_dev25 (d0 : Dev nD) : Nat :=
  let c0_i32_1348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1347 : BitVec 32 := 1#32
  let v1311 : BitVec 32 := Scalar.muli v4 c1_i32_1347
  let v1312 : BitVec 32 := Scalar.addi c0_i32_1348 v1311
  v1312.toNat
def k0_dev26 (d0 : Dev nD) : Nat :=
  let c0_i32_1360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1359 : BitVec 32 := 1#32
  let v1321 : BitVec 32 := Scalar.muli v7 c1_i32_1359
  let v1322 : BitVec 32 := Scalar.addi c0_i32_1360 v1321
  v1322.toNat
def k0_dev27 (d0 : Dev nD) : Nat :=
  let c0_i32_1473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1472 : BitVec 32 := 1#32
  let v1431 : BitVec 32 := Scalar.muli v4 c1_i32_1472
  let v1432 : BitVec 32 := Scalar.addi c0_i32_1473 v1431
  v1432.toNat
def k0_dev28 (d0 : Dev nD) : Nat :=
  let c0_i32_1485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1484 : BitVec 32 := 1#32
  let v1441 : BitVec 32 := Scalar.muli v7 c1_i32_1484
  let v1442 : BitVec 32 := Scalar.addi c0_i32_1485 v1441
  v1442.toNat
def k0_dev29 (d0 : Dev nD) : Nat :=
  let c0_i32_1594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1593 : BitVec 32 := 1#32
  let v1546 : BitVec 32 := Scalar.muli v4 c1_i32_1593
  let v1547 : BitVec 32 := Scalar.addi c0_i32_1594 v1546
  v1547.toNat
def k0_dev30 (d0 : Dev nD) : Nat :=
  let c0_i32_1606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1605 : BitVec 32 := 1#32
  let v1556 : BitVec 32 := Scalar.muli v7 c1_i32_1605
  let v1557 : BitVec 32 := Scalar.addi c0_i32_1606 v1556
  v1557.toNat
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Body.lean ====
/-
  The kernel's body, told once per kind of operation: the ring's slots, the hops of the two directions,
  the emits of the output rows, and the body as their composition at a symbolic device.
-/
module

public import proofs.«01_k».proof.Proof.Gen.KernelIdeal
public import proofs.«01_k».proof.Proof.Gen.KernelIdeal.Points
public import Idealize.ShloMosaic.Lib.Tactic
public import Idealize.ShloMosaic.Lib.Pipeline.Kit
public import Idealize.ShloMosaic.Lib.Rounds
public import Idealize.ShloMosaic.Lib.Transfers
public import Idealize.ShloMosaic.Lib.MemrefSat

@[expose] public section

set_option maxRecDepth 16384

noncomputable section

namespace Cert.KernelIdeal.Ring2

open Idealize.ShloMosaic Idealize.ShloMosaic.TcCoe
open Idealize.SL Idealize.SL.Sem
open Cert.KernelIdeal Cert.KernelIdeal.Gen

variable {F : FTy → Type} [FloatOps F]

/-- A TensorCore program of this kernel. -/
abbrev PT (F : FTy → Type) (α : Type) := Prog (TpuEff nD τ sig (Elt F) Λ₀ .tc) α

/-! ## Buffers and semaphores -/

abbrev xM : Memref sig .tc .hbm S512x4096 .bf16 := Memref.whole main_arg0
abbrev wM : Memref sig .tc .hbm S4096x1024 .f32 := Memref.whole main_arg1
abbrev oM : Memref sig .tc .hbm S4096x1024 .f32 := Memref.whole main_v1
abbrev xvM : Memref sig .tc .vmem S512x4096 .bf16 := Memref.whole cc0_scratch0
abbrev wvM : Memref sig .tc .vmem S4096x1024 .bf16 := Memref.whole cc0_scratch1
abbrev wsM : Memref sig .tc .vmem S2x1024x1024 .f32 := Memref.whole cc0_scratch2
abbrev stM : Memref sig .tc .vmem S2x128x1024 .f32 := Memref.whole cc0_scratch3

/-- The four slots of a direction: `false` is the ring to the right, `true` the ring to the left. -/
def bufM : Bool → Memref sig .tc .vmem S4x256x4096 .bf16
  | false => Memref.whole cc0_scratch4
  | true => Memref.whole cc0_scratch5

theorem bufM_whole (d : Bool) : (bufM d).IsWhole := by
  cases d <;> exact Memref.isWhole_whole _

theorem slot_inb : ∀ (s : Fin 4) (q : Fin 2), ∀ a, (![s.val, 128 * q.val, 0] : Fin 3 → Nat) a + S1x128x4096.size a ≤ S4x256x4096.size a := by decide
theorem slot_words : ∀ (s : Fin 4) (q : Fin 2),
    (Rect.unit (s := S4x256x4096) ![s.val, 128 * q.val, 0] S1x128x4096.size (slot_inb s q)).WholeWords (EltTy.packing .bf16) := by decide
theorem xrow_inb : ∀ (k : Fin 4), ∀ a, (![128 * k.val, 0] : Fin 2 → Nat) a + S128x4096.size a ≤ S512x4096.size a := by decide
theorem xrow_words : ∀ (k : Fin 4),
    (Rect.unit (s := S512x4096) ![128 * k.val, 0] S128x4096.size (xrow_inb k)).WholeWords (EltTy.packing .bf16) := by decide
theorem slotw_inb : ∀ (s : Fin 4), ∀ a, (![s.val, 0, 0] : Fin 3 → Nat) a + S1x256x4096.size a ≤ S4x256x4096.size a := by decide
theorem chunk_inb : ∀ (k : Fin 4), ∀ a, (![1024 * k.val, 0] : Fin 2 → Nat) a + S1024x1024.size a ≤ S4096x1024.size a := by decide
theorem chunk_packed : ∀ (k : Fin 4),
    (Rect.unit (s := S4096x1024) ![1024 * k.val, 0] S1024x1024.size (chunk_inb k)).PackedRows (EltTy.packing .bf16) := by decide
theorem ws_inb : ∀ (b : Fin 2), ∀ a, (![b.val, 0, 0] : Fin 3 → Nat) a + S1x1024x1024.size a ≤ S2x1024x1024.size a := by decide
theorem st_inb : ∀ (b : Fin 2), ∀ a, (![b.val, 0, 0] : Fin 3 → Nat) a + S1x128x1024.size a ≤ S2x128x1024.size a := by decide

/-- Rows `q` of slot `s` in direction `d`. -/
def slotM (d : Bool) (s : Fin 4) (q : Fin 2) : Memref sig .tc .vmem S128x4096 .bf16 :=
  ((bufM d).slice (Rect.unit (s := S4x256x4096) ![s.val, 128 * q.val, 0] S1x128x4096.size (slot_inb s q)) (fun _ => rfl)).squeeze
    S128x4096 squeezes_S1x128x4096_S128x4096

theorem slotM_exact (d : Bool) (s : Fin 4) (q : Fin 2) : (slotM d s q).view.WordExact :=
  ((bufM_whole d).wordExact_slice rfl _ (slot_words s q)).reshape _ _

/-- Row block `k` of the device's own rows of `x`, in vector memory. -/
def xrM (k : Fin 4) : Memref sig .tc .vmem S128x4096 .bf16 :=
  xvM.slice (Rect.unit (s := S512x4096) ![128 * k.val, 0] S128x4096.size (xrow_inb k)) (fun _ => rfl)

theorem xrM_exact (k : Fin 4) : (xrM k).view.WordExact :=
  (Memref.isWhole_whole _).wordExact_slice rfl _ (xrow_words k)

/-- The row block a lane's own rows are: the first half travels right, the second left. -/
def kOf (d : Bool) (q : Fin 2) : Fin 4 := match d with
  | false => ⟨q.val, by omega⟩
  | true => ⟨2 + q.val, by omega⟩

/-- Slot number of arrival `h`. -/
def sl (h : ℕ) : Fin 4 := ⟨h % 4, Nat.mod_lt _ (by decide)⟩

/-- What hop `g` of a lane sends: its own rows, then what arrived. -/
def srcM (d : Bool) (q : Fin 2) : ℕ → Memref sig .tc .vmem S128x4096 .bf16
  | 0 => xrM (kOf d q)
  | g + 1 => slotM d (sl (g + 1)) q

theorem srcM_exact (d : Bool) (q : Fin 2) : ∀ g, (srcM d q g).view.WordExact
  | 0 => xrM_exact _
  | _ + 1 => slotM_exact _ _ _

/-- The slot arrival `h` lands in. -/
def dstM (d : Bool) (q : Fin 2) (h : ℕ) : Memref sig .tc .vmem S128x4096 .bf16 := slotM d (sl h) q
theorem dstM_exact (d : Bool) (q : Fin 2) (h : ℕ) : (dstM d q h).view.WordExact := slotM_exact _ _ _

def ldS (i : Fin 3) : DmaSem sig := ⟨i.val, lt_of_lt_of_le i.2 (by decide)⟩
def stS (b : Fin 2) : DmaSem sig := ⟨3 + b.val, by have := b.2; show 3 + b.val < 37; omega⟩
/-- The send semaphore of a lane's slot. -/
def ssS (d : Bool) (s : Fin 4) (q : Fin 2) : DmaSem sig :=
  ⟨cond d 21 5 + (2 * s.val + q.val), by have := s.2; have := q.2; cases d <;> simp <;> omega⟩
/-- The receive semaphore of a lane's slot. -/
def rsS (d : Bool) (s : Fin 4) (q : Fin 2) : DmaSem sig :=
  ⟨cond d 29 13 + (2 * s.val + q.val), by have := s.2; have := q.2; cases d <;> simp <;> omega⟩

def ckM (k : Fin 4) : Memref sig .tc .hbm S1024x1024 .f32 :=
  wM.slice (Rect.unit (s := S4096x1024) ![1024 * k.val, 0] S1024x1024.size (chunk_inb k)) (fun _ => rfl)
def wbM (b : Fin 2) : Memref sig .tc .vmem S1024x1024 .f32 :=
  (wsM.slice (Rect.unit (s := S2x1024x1024) ![b.val, 0, 0] S1x1024x1024.size (ws_inb b)) (fun _ => rfl)).squeeze S1024x1024
    squeezes_S1x1024x1024_S1024x1024
def sbM (b : Fin 2) : Memref sig .tc .vmem S128x1024 .f32 :=
  (stM.slice (Rect.unit (s := S2x128x1024) ![b.val, 0, 0] S1x128x1024.size (st_inb b)) (fun _ => rfl)).squeeze S128x1024
    squeezes_S1x128x1024_S128x1024

/-- The first row of an emit's output block. -/
def offO (d0 : Dev nD) (d : Bool) (q : Fin 2) : ℕ → Fin 2 → Nat
  | 0 => k0_off1 d0 (BitVec.ofNat 32 (128 * (kOf d q).val))
  | h + 1 => match d with
    | false => k0_off2 d0 (BitVec.ofNat 32 (1 + h)) (BitVec.ofNat 32 (128 * q.val))
    | true => k0_off3 d0 (BitVec.ofNat 32 (1 + h)) (BitVec.ofNat 32 (128 * q.val))

/-- The output block of origin device `o`, row block `k`. -/
theorem out_inb (o : Dev nD) (k : Fin 4) : ∀ a, (![512 * o.val + 128 * k.val, 0] : Fin 2 → Nat) a + S128x1024.size a ≤ S4096x1024.size a := by
  revert o k; decide

def obM (o : Dev nD) (k : Fin 4) : Memref sig .tc .hbm S128x1024 .f32 :=
  oM.slice (Rect.unit (s := S4096x1024) ![512 * o.val + 128 * k.val, 0] S128x1024.size (out_inb o k)) (fun _ => rfl)

/-- The neighbour a direction sends to, and the origin of what arrives at step `h`. -/
def tgt (d : Bool) (c : Dev nD) : Dev nD := match d with
  | false => ⟨(c.val + 1) % 8, Nat.mod_lt _ (by decide)⟩
  | true => ⟨(c.val + 7) % 8, Nat.mod_lt _ (by decide)⟩
def org (d : Bool) (c : Dev nD) (h : ℕ) : Dev nD := match d with
  | false => ⟨(c.val + (8 - h % 8)) % 8, Nat.mod_lt _ (by decide)⟩
  | true => ⟨(c.val + h) % 8, Nat.mod_lt _ (by decide)⟩

theorem offO_eq (c : Dev nD) (d : Bool) (q : Fin 2) (h : Fin 8) :
    offO c d q h.val = ![512 * (org d c h.val).val + 128 * (kOf d q).val, 0] := by
  revert c d q h; decide +kernel

theorem offO_inb (c : Dev nD) (d : Bool) (q : Fin 2) (h : Fin 8) : ∀ a, offO c d q h.val a + S128x1024.size a ≤ S4096x1024.size a := by
  rw [offO_eq]; exact out_inb _ _

def oeM (c : Dev nD) (d : Bool) (q : Fin 2) (h : Fin 8) : Memref sig .tc .hbm S128x1024 .f32 :=
  oM.slice (Rect.unit (s := S4096x1024) (offO c d q h.val) S128x1024.size (offO_inb c d q h)) (fun _ => rfl)

theorem oeM_eq (c : Dev nD) (d : Bool) (q : Fin 2) (h : Fin 8) : oeM c d q h = obM (org d c h.val) (kOf d q) := by
  unfold oeM obM
  have := offO_eq c d q h
  congr 2

/-- The device the `k`-th hop of the body addresses, as printed. -/
def hopDev (d0 : Dev nD) : ℕ → Dev nD
  | 0 => ⟨k0_dev3 d0, k0_dev3_lt d0⟩ | 1 => ⟨k0_dev4 d0, k0_dev4_lt d0⟩
  | 2 => ⟨k0_dev5 d0, k0_dev5_lt d0⟩ | 3 => ⟨k0_dev6 d0, k0_dev6_lt d0⟩
  | 4 => ⟨k0_dev7 d0, k0_dev7_lt d0⟩ | 5 => ⟨k0_dev8 d0, k0_dev8_lt d0⟩
  | 6 => ⟨k0_dev9 d0, k0_dev9_lt d0⟩ | 7 => ⟨k0_dev10 d0, k0_dev10_lt d0⟩
  | 8 => ⟨k0_dev11 d0, k0_dev11_lt d0⟩ | 9 => ⟨k0_dev12 d0, k0_dev12_lt d0⟩
  | 10 => ⟨k0_dev13 d0, k0_dev13_lt d0⟩ | 11 => ⟨k0_dev14 d0, k0_dev14_lt d0⟩
  | 12 => ⟨k0_dev15 d0, k0_dev15_lt d0⟩ | 13 => ⟨k0_dev16 d0, k0_dev16_lt d0⟩
  | 14 => ⟨k0_dev17 d0, k0_dev17_lt d0⟩ | 15 => ⟨k0_dev18 d0, k0_dev18_lt d0⟩
  | 16 => ⟨k0_dev19 d0, k0_dev19_lt d0⟩ | 17 => ⟨k0_dev20 d0, k0_dev20_lt d0⟩
  | 18 => ⟨k0_dev21 d0, k0_dev21_lt d0⟩ | 19 => ⟨k0_dev22 d0, k0_dev22_lt d0⟩
  | 20 => ⟨k0_dev23 d0, k0_dev23_lt d0⟩ | 21 => ⟨k0_dev24 d0, k0_dev24_lt d0⟩
  | 22 => ⟨k0_dev25 d0, k0_dev25_lt d0⟩ | 23 => ⟨k0_dev26 d0, k0_dev26_lt d0⟩
  | 24 => ⟨k0_dev27 d0, k0_dev27_lt d0⟩ | 25 => ⟨k0_dev28 d0, k0_dev28_lt d0⟩
  | 26 => ⟨k0_dev29 d0, k0_dev29_lt d0⟩ | _ => ⟨k0_dev30 d0, k0_dev30_lt d0⟩

/-- Number of a hop in program order. -/
def hopIx (d : Bool) (q : Fin 2) (g : ℕ) : ℕ := 4 * g + (2 * q.val + cond d 1 0)

theorem hopDev_eq (c : Dev nD) (d : Bool) (q : Fin 2) (g : Fin 7) : hopDev c (hopIx d q g.val) = tgt d c := by
  revert c d q g; decide +kernel

/-! ## Values -/

/-- Rows `q` of a loaded slot. -/
def extr (q : Fin 2) (v : Vec F S1x256x4096 .bf16) : FVec F S128x4096 .bf16 := match q with
  | 0 => extractStridedSlice S128x4096 ![0, 0] (shapeCast S256x4096 v shapeCasts_S1x256x4096_S256x4096) slices_S256x4096_o0_0_S128x4096
  | 1 => extractStridedSlice S128x4096 ![128, 0] (shapeCast S256x4096 v shapeCasts_S1x256x4096_S256x4096) slices_S256x4096_o128_0_S128x4096

/-- The 128 output rows of 128 rows of `x`, in the tanh form of GELU. -/
def gelu (y : FVec F S128x1024 .f32) : FVec F S128x1024 .f32 :=
  mulf (mulf (broadcast S128x1024 (Scalar.ofBits .f32 0x3F000000#32)) y)
    (addf (broadcast S128x1024 (Scalar.ofBits .f32 0x3F800000#32))
      (tanh (mulf (broadcast S128x1024 (Scalar.ofBits .f32 0x3F4C422A#32))
        (addf y (mulf (mulf (mulf (broadcast S128x1024 (Scalar.ofBits .f32 0x3D372713#32)) y) y) y)))))

def outR (a : FVec F S128x4096 .bf16) (b : FVec F S4096x1024 .bf16) : FVec F S128x1024 .f32 :=
  gelu (matmul dot_S128x4096_S4096x1024_S128x1024_1_0_0_1_n_n none a b (constant S128x1024 .f32 0x00000000#32))

def outV (a : FVec F S128x4096 .bf16) (b : FVec F S4096x1024 .bf16) : FVec F S1x128x1024 .f32 :=
  shapeCast S1x128x1024 (outR a b) shapeCasts_S128x1024_S1x128x1024

/-- A chunk of `w`, rounded to half precision. -/
def cvt (v : Vec F S1x1024x1024 .f32) : FVec F S1024x1024 .bf16 :=
  shapeCast S1024x1024 (truncf .bf16 (shapeCast S1024x1024 v shapeCasts_S1x1024x1024_S1024x1024) bitsLt_bf16_f32) shapeCasts_S1024x1024_S1024x1024

/-! ## The operations -/

/-- Hop `g` of a lane. -/
def hop (d0 : Dev nD) (d : Bool) (q : Fin 2) (g : ℕ) : PT F PUnit :=
  Prog.lift (.enqueueDma (srcM d q g) (.remote (Dev.tc (hopDev d0 (hopIx d q g))) (dstM d q (g + 1)) (.dma (ssS d (sl g) q)))
    (.dma (rsS d (sl (g + 1)) q)) (srcM_exact d q g) (dstM_exact d q (g + 1)) ⟨⟨rfl, Or.inl rfl⟩, trivial⟩)

/-- The two waits of arrival `h`: its sender half (the hop this device made) and its receiver half. -/
def waitS (d : Bool) (q : Fin 2) (g : ℕ) : PT F PUnit :=
  Prog.lift (.waitDma2 (ssS d (sl g) q) (dstM d q (g + 1)) (srcM d q g) (dstM_exact d q (g + 1)) (srcM_exact d q g))
def waitR (d : Bool) (q : Fin 2) (g : ℕ) : PT F PUnit :=
  Prog.lift (.waitDma2 (rsS d (sl (g + 1)) q) (srcM d q g) (dstM d q (g + 1)) (srcM_exact d q g) (dstM_exact d q (g + 1)))

def loadSlot (d : Bool) (s : Fin 4) : PT F (Vec F S1x256x4096 .bf16) :=
  Prog.lift (.load (bufM d) (Rect.unit (s := S4x256x4096) ![s.val, 0, 0] S1x256x4096.size (slotw_inb s)).toLoadRect (View.loadsAt_vmem h_S1x256x4096))
def loadW : PT F (Vec F S4096x1024 .bf16) :=
  Prog.lift (.load wvM (Rect.unit (s := S4096x1024) ![0, 0] S4096x1024.size inb_S4096x1024_S4096x1024_0_0).toLoadRect (View.loadsAt_vmem h_S4096x1024))
def loadX (k : Fin 4) : PT F (Vec F S128x4096 .bf16) :=
  Prog.lift (.load xvM (Rect.unit (s := S512x4096) ![128 * k.val, 0] S128x4096.size (xrow_inb k)).toLoadRect (View.loadsAt_vmem h_S128x4096))

/-- Wait for the store of the block `o` from staging slot `b`. -/
def waitO (b : Fin 2) (o : Memref sig .tc .hbm S128x1024 .f32) : PT F PUnit :=
  Prog.lift (.waitDma2 (stS b) (sbM b) o ((View.wordExact_bits rfl).reshape _ _) (View.wordExact_bits rfl))

/-- Write a block into staging slot `b` and send it to the output block `o`. -/
def putO (b : Fin 2) (v : Vec F S1x128x1024 .f32) (o : Memref sig .tc .hbm S128x1024 .f32) : PT F PUnit := do
  let _ ← Prog.lift (.load stM (Rect.unit (s := S2x128x1024) ![b.val, 0, 0] S1x128x1024.size (st_inb b)).toLoadRect (View.loadsAt_vmem h_S1x128x1024))
  Prog.lift (.store stM (Rect.unit (s := S2x128x1024) ![b.val, 0, 0] S1x128x1024.size (st_inb b)) v Finset.univ (View.stores_vmem_bits_univ h_S1x128x1024 rfl) (.inl rfl))
  Prog.lift (.enqueueDma (sbM b) (.here o) (.dma (stS b)) ((View.wordExact_bits rfl).reshape _ _) (View.wordExact_bits rfl) ⟨Or.inl rfl, trivial⟩)

/-- The barrier with both neighbours. -/
def barrier (d0 : Dev nD) : PT F PUnit := do
  semSignalWord (⟨k0_dev1 d0, k0_dev1_lt d0⟩ : Dev nD) barrier0 1#32
  semSignalWord (⟨k0_dev2 d0, k0_dev2_lt d0⟩ : Dev nD) barrier0 1#32
  semWaitWord barrier0 2#32

def fetchW (k : Fin 4) (b : Fin 2) (i : Fin 3) : PT F PUnit :=
  Prog.lift (.enqueueDma (ckM k) (.here (wbM b)) (.dma (ldS i)) (View.wordExact_bits rfl) ((View.wordExact_bits rfl).reshape _ _) ⟨Or.inl rfl, trivial⟩)

/-- Chunk `k` of `w`: wait for it, round it, keep it. -/
def convW (k : Fin 4) (b : Fin 2) (i : Fin 3) : PT F PUnit := do
  Prog.lift (.waitDma2 (ldS i) (ckM k) (wbM b) (View.wordExact_bits rfl) ((View.wordExact_bits rfl).reshape _ _))
  let v ← Prog.lift (.load wsM (Rect.unit (s := S2x1024x1024) ![b.val, 0, 0] S1x1024x1024.size (ws_inb b)).toLoadRect (View.loadsAt_vmem h_S1x1024x1024))
  let _ ← Prog.lift (.load wvM (Rect.unit (s := S4096x1024) ![1024 * k.val, 0] S1024x1024.size (chunk_inb k)).toLoadRect (View.loadsAt_vmem h_S1024x1024))
  Prog.lift (.store wvM (Rect.unit (s := S4096x1024) ![1024 * k.val, 0] S1024x1024.size (chunk_inb k)) (cvt v) Finset.univ
    (View.stores_vmem h_S1024x1024 ((Memref.isWhole_whole _).storeExact_slice rfl _ (chunk_packed k)) (fun _ => rfl)) (.inl rfl))

/-- The output block the staging slot's emit before that of step `h`, rows `q`, went to. -/
def prevO (c : Dev nD) (d : Bool) : Fin 2 → ℕ → Memref sig .tc .hbm S128x1024 .f32
  | 1, h => oeM c d 0 ⟨h % 8, Nat.mod_lt _ (by decide)⟩
  | 0, h + 2 => oeM c d 1 ⟨(h + 1) % 8, Nat.mod_lt _ (by decide)⟩
  | 0, _ => match d with
    | false => oeM c true 0 0
    | true => oeM c true 1 0

/-- One of the device's own four row blocks. -/
def own (c : Dev nD) (d : Bool) (q : Fin 2) : PT F PUnit := do
  let v ← loadX (kOf d q)
  let w ← loadW
  match d with
  | false => putO q (outV v w) (oeM c d q 0)
  | true => do
    waitO q (oeM c false q 0)
    putO q (outV v w) (oeM c d q 0)

/-- The staging slot a direction's emits use. -/
def sb : Bool → Fin 2
  | false => 0
  | true => 1

/-- The output rows of what arrived in direction `d` at step `h`. -/
def emit (c : Dev nD) (d : Bool) (q : Fin 2) (h : ℕ) (v : Vec F S1x256x4096 .bf16) : PT F PUnit := do
  let w ← loadW
  waitO (sb d) (prevO c d q h)
  putO (sb d) (outV (extr q v) w) (oeM c d q ⟨h % 8, Nat.mod_lt _ (by decide)⟩)

/-- The waits of a step, in both directions. -/
def arrive (q : Fin 2) (g : ℕ) : PT F PUnit := do
  waitS false q g
  waitR false q g
  waitS true q g
  waitR true q g

def pass (c : Dev nD) (q : Fin 2) (h : ℕ) : PT F PUnit := do
  hop c false q h
  hop c true q h

def emits (c : Dev nD) (q : Fin 2) (h : ℕ) : PT F PUnit := do
  let vf ← loadSlot false (sl h)
  let vb ← loadSlot true (sl h)
  emit c false q h vf
  emit c true q h vb

/-- One half of step `g + 1`. -/
def half (c : Dev nD) (q : Fin 2) (g : ℕ) : PT F PUnit := do
  arrive q g
  pass c q (g + 1)
  emits c q (g + 1)

def step (c : Dev nD) (g : ℕ) : PT F PUnit := do
  half c 0 g
  half c 1 g

def lastHalf (c : Dev nD) (q : Fin 2) : PT F PUnit := do
  arrive q 6
  emits c q 7

/-- Before the steps: fetch the operands, meet the neighbours, make the first hops. -/
def open1 (c : Dev nD) : PT F PUnit := do
  Prog.lift (.enqueueDma xM (.here xvM) (.dma (ldS 0)) (Memref.isWhole_whole _).wordExact (Memref.isWhole_whole _).wordExact ⟨Or.inl rfl, trivial⟩)
  fetchW 0 0 1
  fetchW 1 1 2
  barrier c

def open2 (c : Dev nD) : PT F PUnit := do
  Prog.lift (.waitDma2 (ldS 0) xM xvM (Memref.isWhole_whole _).wordExact (Memref.isWhole_whole _).wordExact)
  pass c 0 0
  pass c 1 0

def conv : PT F PUnit := do
  convW 0 0 1
  fetchW 2 0 1
  convW 1 1 2
  fetchW 3 1 2
  convW 2 0 1
  convW 3 1 2

def owns4 (c : Dev nD) : PT F PUnit := do
  own c false 0
  own c false 1
  own c true 0
  own c true 1

def close (c : Dev nD) : PT F PUnit := do
  waitO 0 (oeM c false 1 7)
  waitO 1 (oeM c true 1 7)

/-- The body. -/
def body : PT F PUnit := do
  let c ← Prog.lift .deviceId
  open1 c
  open2 c
  conv
  owns4 c
  step c 0
  step c 1
  step c 2
  step c 3
  step c 4
  step c 5
  lastHalf c 0
  lastHalf c 1
  close c

set_option maxRecDepth 65536 in
set_option maxHeartbeats 2000000 in
theorem body_eq (t : Fin cfg0.N) : bodyAt0 (F := F) t = body (F := F) := by
  sl_kernel_rfl

end Cert.KernelIdeal.Ring2
end
-- ==== Proof.Proto.lean ====
/-
  The protocol of the ring: who holds a slot when, what a semaphore's units hand over, and the order of the waits.
-/
module

public import proofs.«01_k».proof.Proof.Body
public import Mathlib.Algebra.BigOperators.Intervals
public import Mathlib.Tactic.IntervalCases

@[expose] public section

set_option maxRecDepth 16384

noncomputable section

namespace Cert.KernelIdeal.Ring2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

/-! ## Ghost state -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB (UB × Counters)).trans embR
abbrev EC : UEmb Counters (MT nD τ sig ℕ (Elt F) ℕ UU ℕ) := countersEmb
instance ER_landsIn : (ER (F := F)).LandsIn (upEmb : UEmb _ 𝕄) := by unfold ER; infer_instance

variable (m : (ℓ : Loc nD τ sig) → Buf (Elt F) ℓ)

/-! ## Cells -/

/-- A slot's half: the direction, the slot, the rows. -/
abbrev Slot : Type := Bool × Fin 4 × Fin 2

abbrev barCell (c : Dev nD) : GSem nD τ sig := ((c : Thread nD τ), .reg barrier0)
abbrev rcell (c : Dev nD) (d : Bool) (s : Fin 4) (q : Fin 2) : GSem nD τ sig := ((c : Thread nD τ), .dma (rsS d s q))
abbrev scell (c : Dev nD) (d : Bool) (s : Fin 4) (q : Fin 2) : GSem nD τ sig := ((c : Thread nD τ), .dma (ssS d s q))

/-- What a semaphore is: the barrier, or the receive semaphore of a slot's half. -/
def dec : SemLoc sig → Option (Option Slot)
  | .reg _ => some none
  | .dma i =>
    if 13 ≤ i.val ∧ i.val < 21 then some (some (false, ⟨(i.val - 13) / 2 % 4, Nat.mod_lt _ (by decide)⟩, ⟨(i.val - 13) % 2, Nat.mod_lt _ (by decide)⟩))
    else if 29 ≤ i.val then some (some (true, ⟨(i.val - 29) / 2 % 4, Nat.mod_lt _ (by decide)⟩, ⟨(i.val - 29) % 2, Nat.mod_lt _ (by decide)⟩))
    else none

theorem dec_rsS (d : Bool) (s : Fin 4) (q : Fin 2) : dec (.dma (rsS d s q)) = some (some (d, s, q)) := by
  revert d s q; decide
theorem dec_bar : dec (.reg barrier0) = some none := rfl

/-- The number of an arrival's round at its slot, and back. -/
def rnd (a : ℕ) : ℕ := (a - 1) / 4
def arr (s : Fin 4) (r : ℕ) : ℕ := (if s.val = 0 then 4 else s.val) + 4 * r
theorem arr_rnd {a : ℕ} (h₁ : 1 ≤ a) (h₂ : a ≤ 7) : arr (sl a) (rnd a) = a := by
  interval_cases a <;> rfl

/-! ## What the slots hold -/

/-- A device's rows of `x`. -/
def xdev (o : Dev nD) : Vec F S512x4096 .bf16 := m ((o : Thread nD τ).loc main_arg0)
/-- The rows of arrival `a` of a lane (arrival 0 is the device's own). -/
def X (c : Dev nD) (d : Bool) (q : Fin 2) (a : ℕ) : Vec F S128x4096 .bf16 := (xrM (kOf d q)).view.read (Elt F) (xdev m (org d c a))

theorem org_zero (d : Bool) (c : Dev nD) : org d c 0 = c := by revert d c; decide
theorem org_succ (d : Bool) (c : Dev nD) (g : Fin 7) : org d (tgt d c) (g.val + 1) = org d c g.val := by revert d c g; decide
theorem tgt_tgt (d : Bool) (c : Dev nD) : tgt (!d) (tgt d c) = c := by revert d c; decide
theorem tgt_tgt' (d : Bool) (c : Dev nD) : tgt d (tgt (!d) c) = c := by revert d c; decide

/-- Two tokens of a slot's half: the first lets its device read under the writes of the neighbour, the second goes with the right to write. -/
def tokA (c : Dev nD) (p : Slot) : sProp 𝕄 := dutyTok ER (rcell c p.1 p.2.1 p.2.2) 7 false
def tokB (c : Dev nD) (p : Slot) : sProp 𝕄 := dutyTok ER (rcell c p.1 p.2.1 p.2.2) 8 false
instance tokA_storable (c : Dev nD) (p : Slot) : BI.Storable (upEmb : UEmb _ 𝕄) (tokA (F := F) c p) := by unfold tokA; infer_instance
instance tokB_storable (c : Dev nD) (p : Slot) : BI.Storable (upEmb : UEmb _ 𝕄) (tokB (F := F) c p) := by unfold tokB; infer_instance

/-- The left share of a slot's half stays in an invariant, so that its device may read the slot whoever may write it. -/
def slotInv (c : Dev nD) (p : Slot) : sProp 𝕄 :=
  iprop((∃ Y, owns (c : Thread nD τ) (slotM p.1 p.2.1 p.2.2) fullShare.left Y) ∨ (tokA c p ∗ tokB c p))
instance slotInv_storable (c : Dev nD) (p : Slot) : BI.Storable (upEmb : UEmb _ 𝕄) (slotInv (F := F) c p) := by unfold slotInv; infer_instance

/-- The right to write a slot's half, which now reads `Y`; and at some contents. -/
def slotV (c : Dev nD) (p : Slot) (Y : Vec F S128x4096 .bf16) : sProp 𝕄 :=
  iprop(owns (c : Thread nD τ) (slotM p.1 p.2.1 p.2.2) fullShare.right Y ∗ tokB c p)
def slotO (c : Dev nD) (p : Slot) : sProp 𝕄 := iprop(∃ Y, slotV c p Y)
instance slotV_storable (c : Dev nD) (p : Slot) (Y : Vec F S128x4096 .bf16) : BI.Storable (upEmb : UEmb _ 𝕄) (slotV (F := F) c p Y) := by unfold slotV; infer_instance
instance slotO_storable (c : Dev nD) (p : Slot) : BI.Storable (upEmb : UEmb _ 𝕄) (slotO (F := F) c p) := by unfold slotO; infer_instance

/-- What hop `g` of a lane needs of its target: the slot, and that its round is open. -/
def tgtRes (c : Dev nD) (d : Bool) (q : Fin 2) (g : ℕ) : sProp 𝕄 :=
  iprop(slotO (tgt d c) (d, sl (g + 1), q) ∗ reached ER (rcell (tgt d c) d (sl (g + 1)) q) (rnd (g + 1)))
instance tgtRes_storable (c : Dev nD) (d : Bool) (q : Fin 2) (g : ℕ) : BI.Storable (upEmb : UEmb _ 𝕄) (tgtRes (F := F) c d q g) := by unfold tgtRes; infer_instance

/-- Beside the rows, arrivals 1 to 5 bring the sender's slot that the opposite lane's hop after next will fill. -/
def carry (c : Dev nD) (d : Bool) (q : Fin 2) (a : ℕ) : sProp 𝕄 :=
  if 1 ≤ a ∧ a ≤ 5 then tgtRes c (!d) q (a + 1) else iprop(emp)
instance carry_storable (c : Dev nD) (d : Bool) (q : Fin 2) (a : ℕ) : BI.Storable (upEmb : UEmb _ 𝕄) (carry (F := F) c d q a) := by
  unfold carry; split <;> infer_instance

def recvPay (c : Dev nD) (p : Slot) (a : ℕ) : sProp 𝕄 := iprop(slotV c p (X m c p.1 p.2.2 a) ∗ carry c p.1 p.2.2 a)
def barPay (c : Dev nD) (d : Bool) : sProp 𝕄 :=
  iprop((tgtRes c d 0 0 ∗ tgtRes c d 0 1) ∗ (tgtRes c d 1 0 ∗ tgtRes c d 1 1))
instance recvPay_storable (c : Dev nD) (p : Slot) (a : ℕ) : BI.Storable (upEmb : UEmb _ 𝕄) (recvPay (F := F) m c p a) := by unfold recvPay; infer_instance
instance barPay_storable (c : Dev nD) (d : Bool) : BI.Storable (upEmb : UEmb _ 𝕄) (barPay (F := F) c d) := by unfold barPay; infer_instance

/-! ## The schedule -/

abbrev N : ℕ := (slotM false 0 0).view.dmaCredit
theorem N_pos : 0 < N := View.dmaCredit_pos _ (by decide)
theorem slot_credit (d : Bool) (s : Fin 4) (q : Fin 2) : (slotM d s q).view.dmaCredit = N := by cases d <;> rfl
theorem src_credit (d : Bool) (q : Fin 2) (g : ℕ) : (srcM d q g).view.dmaCredit = N := by
  cases g
  · rfl
  · exact slot_credit _ _ _

def dutiesOf (o : Option (Option Slot)) (r : ℕ) : Finset Bool := match o with
  | some none => if r = 0 then Finset.univ else ∅
  | some (some (_, s, _)) => if arr s r ≤ 7 then {false} else ∅
  | none => ∅
def payOf (c : Dev nD) (o : Option (Option Slot)) (r : ℕ) (b : Bool) : sProp 𝕄 := match o with
  | some none => barPay c b
  | some (some p) => recvPay m c p (arr p.2.1 r)
  | none => iprop(emp)
instance payOf_storable (c : Dev nD) (o : Option (Option Slot)) (r : ℕ) (b : Bool) : BI.Storable (upEmb : UEmb _ 𝕄) (payOf (F := F) m c o r b) := by
  rcases o with _ | _ | p <;> unfold payOf <;> infer_instance

def Rd : Rounds.Schedule (GSem nD τ sig) Bool 𝕄 where
  duties g r := dutiesOf (dec g.2) r
  unitless _ := False
  amount g _ _ := if dec g.2 = some none then 1 else N
  payload g r b := payOf m g.1.1 (dec g.2) r b
  amount_pos g _ _ _ := by
    by_cases h : dec g.2 = some none
    · rw [if_pos h]; exact Nat.one_pos
    · rw [if_neg h]; exact N_pos

instance Rd_payload_storable (g : GSem nD τ sig) (r : ℕ) (b : Bool) : BI.Storable (upEmb : UEmb _ 𝕄) ((Rd (F := F) m).payload g r b) := by
  show BI.Storable upEmb (payOf m g.1.1 (dec g.2) r b); infer_instance

section Sched
variable (c : Dev nD) (d : Bool) (s : Fin 4) (q : Fin 2)

theorem duties_bar : (Rd (F := F) m).duties (barCell c) 0 = Finset.univ := rfl
theorem duties_recv {r : ℕ} (h : arr s r ≤ 7) : (Rd (F := F) m).duties (rcell c d s q) r = {false} := by
  show dutiesOf (dec _) r = _; rw [dec_rsS]; exact if_pos h
theorem duties_recv_none {r : ℕ} (h : 7 < arr s r) : (Rd (F := F) m).duties (rcell c d s q) r = ∅ := by
  show dutiesOf (dec _) r = _; rw [dec_rsS]; exact if_neg (by omega)
theorem amount_bar (r : ℕ) (b : Bool) : (Rd (F := F) m).amount (barCell c) r b = 1 := rfl
theorem amount_recv (r : ℕ) (b : Bool) : (Rd (F := F) m).amount (rcell c d s q) r b = N := by
  show (if dec _ = some none then 1 else N) = N
  rw [dec_rsS]; exact if_neg (by simp)
theorem expect_bar : (Rd (F := F) m).expect (barCell c) 0 = 2 := rfl
theorem expect_recv {r : ℕ} (h : arr s r ≤ 7) : (Rd (F := F) m).expect (rcell c d s q) r = N := by
  unfold Schedule.expect Schedule.amountOf; rw [duties_recv _ _ _ _ _ h, Finset.sum_singleton, amount_recv]
theorem payload_bar (b : Bool) : (Rd (F := F) m).payload (barCell c) 0 b = barPay c b := rfl
theorem payload_recv (r : ℕ) (b : Bool) : (Rd (F := F) m).payload (rcell c d s q) r b = recvPay m c (d, s, q) (arr s r) := by
  show payOf m c (dec _) r b = _; rw [dec_rsS]; rfl
theorem rest_recv {a : ℕ} (h₁ : 1 ≤ a) (h₂ : a ≤ 7) :
    bigSep ((Rd (F := F) m).duties (rcell c d (sl a) q) (rnd a) \ ∅) (fun b => (Rd (F := F) m).payload (rcell c d (sl a) q) (rnd a) b)
      = recvPay m c (d, sl a, q) a := by
  rw [Finset.sdiff_empty, duties_recv _ _ _ _ _ (by rw [arr_rnd h₁ h₂]; exact h₂), bigSep_singleton, payload_recv, arr_rnd h₁ h₂]
theorem rest_bar : bigSep ((Rd (F := F) m).duties (barCell c) 0 \ ∅) (fun b => (Rd (F := F) m).payload (barCell c) 0 b)
      = iprop(barPay c false ∗ barPay c true) := by
  rw [Finset.sdiff_empty, duties_bar]
  exact bigSep_univ_eq_bigSepL [false, true] (by decide) (by decide) _
end Sched

/-! ## What a device owes, and the levels -/

def hd (k : ℕ) : Bool := decide (k % 2 = 1)
def hq (k : ℕ) : Fin 2 := ⟨k / 2 % 2, Nat.mod_lt _ (by decide)⟩
theorem hd_ix (d : Bool) (q : Fin 2) (g : ℕ) : hd (hopIx d q g) = d := by
  have := q.2; unfold hd hopIx; cases d <;> simp <;> omega
theorem hq_ix (d : Bool) (q : Fin 2) (g : ℕ) : hq (hopIx d q g) = q := by
  have := q.2; apply Fin.ext; unfold hq hopIx; cases d <;> simp <;> omega
theorem hg_ix (d : Bool) (q : Fin 2) (g : ℕ) : hopIx d q g / 4 = g := by
  have := q.2; unfold hopIx; cases d <;> simp <;> omega

/-- The units hop `k` of the program order puts on its target's semaphore. -/
def hopT (c : Dev nD) (k : ℕ) : CellTallies nD τ sig ℕ :=
  tallyAt (rcell (tgt (hd k) c) (hd k) (sl (k / 4 + 1)) (hq k)) (k / 4 + 1) N
theorem hopT_ix (c : Dev nD) (d : Bool) (q : Fin 2) (g : ℕ) :
    hopT c (hopIx d q g) = tallyAt (rcell (tgt d c) d (sl (g + 1)) q) (g + 1) N := by
  unfold hopT; rw [hd_ix, hq_ix, hg_ix]

/-- What is owed when the first `k` hops are made. -/
def Orem (c : Dev nD) (k : ℕ) : CellTallies nD τ sig ℕ := ∑ j ∈ Finset.Ico k 28, hopT c j
theorem Orem_succ (c : Dev nD) {k : ℕ} (h : k < 28) : Orem c k = Orem c (k + 1) + hopT c k := by
  unfold Orem; rw [Finset.sum_eq_sum_Ico_succ_bot h, add_comm]
theorem Orem_end (c : Dev nD) : Orem c 28 = 0 := by unfold Orem; simp
def O₀ (c : Dev nD) : CellTallies nD τ sig ℕ := Orem c 0 + tallyAt (barCell (tgt false c)) 0 1 + tallyAt (barCell (tgt true c)) 0 1

def L (g : GSem nD τ sig) : Finset ℕ := if g.1.2 = .tc then Finset.range 8 else ∅
def lv (_ : GSem nD τ sig) (i : ℕ) : ℕ := i
theorem L_of_ne (g : GSem nD τ sig) (h : g.1.2 ≠ .tc) : L g = ∅ := if_neg h
theorem L_tc (c : Dev nD) (sm : SemLoc sig) : L ((c : Thread nD τ), sm) = Finset.range 8 := if_pos rfl

theorem Orem_pos {c : Dev nD} {k : ℕ} {g : GSem nD τ sig} {i : ℕ} (h : 0 < Orem c k g i) : k / 4 + 1 ≤ i ∧ i ≤ 7 ∧ g.1.2 = .tc := by
  unfold Orem at h
  rw [Finset.sum_apply, Finsupp.finset_sum_apply] at h
  obtain ⟨j, hj, hp⟩ := Finset.exists_ne_zero_of_sum_ne_zero (Nat.pos_iff_ne_zero.mp h)
  unfold hopT at hp
  rw [tallyAt_apply] at hp
  rw [Finset.mem_Ico] at hj
  by_cases hc : g = rcell (tgt (hd j) c) (hd j) (sl (j / 4 + 1)) (hq j) ∧ i = j / 4 + 1
  · obtain ⟨rfl, rfl⟩ := hc
    refine ⟨?_, ?_, rfl⟩ <;> omega
  · rw [if_neg hc] at hp; exact absurd rfl hp

/-- The wait of arrival `i` when `k` hops are made. -/
theorem mayWait (c : Dev nD) (sm : SemLoc sig) (i k : ℕ) (hi : i ≤ k / 4) (h7 : i < 8) :
    (levAts L lv : sProp 𝕄) ⊢ MayWait (c : Thread nD τ) sm i (Orem c k) :=
  MayOwe.of_cut (L := L) (lev := lv) i
    (fun p hp => by rw [Finset.mem_singleton.mp hp, L_tc]; exact Finset.mem_range.mpr h7)
    (fun g u hg => by
      obtain ⟨-, h₂, h₃⟩ := Orem_pos hg
      unfold L; rw [if_pos h₃]; exact Finset.mem_range.mpr (by omega))
    (fun p hp => by rw [Finset.mem_singleton.mp hp]; exact le_rfl)
    (fun g u hg => by obtain ⟨h₁, -, -⟩ := Orem_pos hg; show i < u; omega)

end Cert.KernelIdeal.Ring2
end
-- ==== Proof.Slots.lean ====
/-
  A slot of the ring under its invariant: the neighbour writes it, and its device reads it while the neighbour may be writing.
-/
module

public import proofs.«01_k».proof.Proof.Proto
public import Idealize.ShloMosaic.Lib.ReshapeSlab
public import Idealize.ShloMosaic.Lib.ValueLayout
public import Idealize.ShloMosaic.Lib.ValueIdxCore

@[expose] public section

set_option maxRecDepth 16384

noncomputable section

namespace Cert.KernelIdeal.Ring2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen
open Idealize.ShloMosaic.ValueIdx (ix2 ix3 eq_ix2 shapeCast_1ab_ab_apply)

variable {F : FTy → Type} [FloatOps F]

local notation "𝕄" => MT nD τ sig ℕ (Elt F) ℕ UU ℕ

/-! ## The invariant of all the slots -/

/-- Every slot's half of every device, as the invariant keeps it. -/
def slotsBody : sProp 𝕄 := bigSep Finset.univ fun p : Dev nD × Slot => slotInv p.1 p.2
instance slotsBody_storable : BI.Storable (upEmb : UEmb _ 𝕄) (slotsBody (F := F)) := by unfold slotsBody; infer_instance

theorem slotsBody_acc (c : Dev nD) (p : Slot) :
    (slotsBody : sProp 𝕄) ⊢ iprop(slotInv c p ∗ (slotInv c p -∗ slotsBody)) := by
  have h : (slotsBody : sProp 𝕄) = iprop(slotInv c p ∗ bigSep (Finset.univ.erase (c, p)) fun p : Dev nD × Slot => slotInv p.1 p.2) :=
    bigSep_univ_split (c, p)
  rw [h]
  iintro ⟨Hb, Hrest⟩
  isplitl [Hb]; · iexact Hb
  iintro Hb
  isplitl [Hb] <;> iassumption

theorem slotsBody_acc₂ (c : Dev nD) {p p' : Slot} (h : p ≠ p') :
    (slotsBody : sProp 𝕄) ⊢ iprop(slotInv c p ∗ slotInv c p' ∗ (slotInv c p -∗ slotInv c p' -∗ slotsBody)) := by
  have hm : ((c, p') : Dev nD × Slot) ∈ Finset.univ.erase (c, p) :=
    Finset.mem_erase.mpr ⟨fun e => h (Prod.mk.inj e).2.symm, Finset.mem_univ _⟩
  have h : (slotsBody : sProp 𝕄) = iprop(slotInv c p ∗ slotInv c p'
      ∗ bigSep ((Finset.univ.erase (c, p)).erase (c, p')) fun p : Dev nD × Slot => slotInv p.1 p.2) := by
    unfold slotsBody
    rw [bigSep_univ_split (c, p), bigSep_erase hm]
    rfl
  rw [h]
  iintro ⟨Hb, Hb', Hrest⟩
  isplitl [Hb]; · iexact Hb
  isplitl [Hb']; · iexact Hb'
  iintro Hb Hb'
  isplitl [Hb]; · iexact Hb
  isplitl [Hb'] <;> iassumption

/-- Two shares of one region read the same, so together they are the whole share. -/
theorem pts_rejoin {ℓ : Loc nD τ sig} {I : Finset (Idx ℓ)} {q : PosShare TreeShare} {f g : Buf (Elt F) ℓ} :
    iprop((ℓ ↦[I]{q.left} f) ∗ (ℓ ↦[I]{q.right} g)) ⊢ (ℓ ↦[I]{q} g : sProp 𝕄) :=
  pure_elim _ pointsTo_agree fun hv => by
    rw [pointsTo_congr (f := f) (g := g) (fun i hi => ((hv i (Finset.mem_inter.mpr ⟨hi, hi⟩)).1))]
    exact (pointsTo_share (PosShare.mem_left_op_right q)).2

/-- With the second token in hand the invariant has the left share of the slot. -/
theorem slotInv_left (c : Dev nD) (p : Slot) :
    iprop(slotInv c p ∗ tokB c p) ⊢ (iprop((∃ Y, owns (c : Thread nD τ) (slotM p.1 p.2.1 p.2.2) fullShare.left Y) ∗ tokB c p) : sProp 𝕄) := by
  unfold slotInv
  iintro ⟨H, HB⟩
  icases H with (H | ⟨-, HB'⟩)
  · isplitl [H] <;> iassumption
  · iexfalso; unfold tokB; iapply (dutyTok_dutyTok_false (ER (F := F))); isplitl [HB] <;> iassumption

/-- With the first token as well. -/
theorem slotInv_leftA (c : Dev nD) (p : Slot) :
    iprop(slotInv c p ∗ tokA c p) ⊢ (iprop((∃ Y, owns (c : Thread nD τ) (slotM p.1 p.2.1 p.2.2) fullShare.left Y) ∗ tokA c p) : sProp 𝕄) := by
  unfold slotInv
  iintro ⟨H, HB⟩
  icases H with (H | ⟨HA, -⟩)
  · isplitl [H] <;> iassumption
  · iexfalso; unfold tokA; iapply (dutyTok_dutyTok_false (ER (F := F))); isplitl [HB] <;> iassumption

/-- One step of a write into a slot: the left share is there to complete the writer's. -/
theorem slot_storeStep (c : Dev nD) (d : Bool) (s : Fin 4) (q : Fin 2) (w : Vec F S128x4096 .bf16) (M' : Finset S128x4096.Idx)
    (g : Buf (Elt F) ((slotM d s q).view.loc (c : Thread nD τ))) (K : PUnit → sProp 𝕄) :
    iprop(slotInv c (d, s, q) ∗ ((slotM d s q).view.loc (c : Thread nD τ) ↦[(slotM d s q).view.set]{fullShare.right} g) ∗ tokB c (d, s, q)
      ∗ (slotInv c (d, s, q)
        -∗ ((slotM d s q).view.loc (c : Thread nD τ) ↦[(slotM d s q).view.set]{fullShare.right} ((slotM d s q).view.write (Elt F) g w M'))
        -∗ tokB c (d, s, q) -∗ K ⟨⟩))
      ⊢ storeSpec (c : Thread nD τ) (slotM d s q).view w M' K := by
  iintro ⟨Hb, Hpt, HB, HK⟩
  ihave Hb := (slotInv_left c (d, s, q)) $$ [Hb HB]
  · isplitl [Hb] <;> iassumption
  icases Hb with ⟨⟨%Y', Hl⟩, HB⟩
  unfold owns
  icases Hl with ⟨%f', -, Hl⟩
  ihave Hfull := (pts_rejoin (q := fullShare)) $$ [Hl Hpt]
  · isplitl [Hl]; · iexact Hl
    iexact Hpt
  rw [storeSpec_apply]
  iexists (slotM d s q).view.set, g
  isplitl [Hfull]; · iexact Hfull
  isplitr; · ipureintro; exact (slotM d s q).view.setOn_subset_set _
  iintro Hfull
  ihave H := (pointsTo_share (PosShare.mem_left_op_right fullShare)).1 $$ Hfull
  icases H with ⟨Hl, Hr⟩
  iapply HK $$ [Hl] [Hr] [HB]
  · unfold slotInv; ileft
    iexists ((slotM d s q).view.read (Elt F) ((slotM d s q).view.write (Elt F) g w M'))
    iapply (owns_intro (c : Thread nD τ) (slotM d s q)); iexact Hl
  · iexact Hr
  · iexact HB

/-- A neighbour that has the right to write a slot writes it, whoever reads meanwhile. -/
theorem slot_writeUpdate (κ : ℕ) (c : Dev nD) (d : Bool) (s : Fin 4) (q : Fin 2) (w : Vec F S128x4096 .bf16) :
    iprop(inv κ (slotsBody (F := F)) ∗ slotO c (d, s, q))
      ⊢ (writeUpdate (c : Thread nD τ) (slotM d s q).view w (slotV c (d, s, q) w) : sProp 𝕄) := by
  rw [writeUpdate, writeUpdateFrom_def]
  unfold slotO slotV owns
  iintro ⟨#Hinv, %Y, ⟨%f, %hf, Hpt⟩, HB⟩
  iexists (fun M => iprop(((slotM d s q).view.loc (c : Thread nD τ) ↦[(slotM d s q).view.set]{fullShare.right} ((slotM d s q).view.write (Elt F) f w M))
    ∗ tokB c (d, s, q)))
  simp only [View.write_empty]
  isplitl [Hpt HB]
  · isplitl [Hpt] <;> iassumption
  isplitr
  · rw [writeSteps_def]
    imodintro
    iintro %M %M' ⟨Hpt, HB⟩
    rw [← View.write_write_union]
    imod (inv_acc (Set.mem_univ κ)) $$ Hinv with ⟨Hb, Hclose⟩
    ihave Hb := (slotsBody_acc c (d, s, q)) $$ Hb
    icases Hb with ⟨Hb, Hback⟩
    imodintro
    iapply (slot_storeStep c d s q w M' _ _)
    isplitl [Hb]; · iexact Hb
    isplitl [Hpt]; · iexact Hpt
    isplitl [HB]; · iexact HB
    iintro Hb Hpt HB
    ihave Hb := Hback $$ Hb
    ihave Hc := Hclose $$ Hb
    imod Hc
    imodintro
    isplitl [Hpt] <;> iassumption
  · iintro ⟨Hpt, HB⟩
    isplitl [Hpt]
    · iexists ((slotM d s q).view.write (Elt F) f w Finset.univ)
      isplitr; · ipureintro; exact View.read_write_univ _ _
      iexact Hpt
    · iexact HB

/-! ## A device reads a slot -/

theorem slot_set (d : Bool) (s : Fin 4) (q : Fin 2) :
    (slotM d s q).view.set = ((bufM d).slice (Rect.unit (s := S4x256x4096) ![s.val, 128 * q.val, 0] S1x128x4096.size (slot_inb s q)) (fun _ => rfl)).view.set :=
  View.set_reshape _ _

theorem slot_disj (d : Bool) {s s' : Fin 4} {q q' : Fin 2} (h : s ≠ s' ∨ q ≠ q') :
    Disjoint (slotM d s q).view.set (slotM d s' q').view.set := by
  rw [slot_set, slot_set]
  rcases h with h | h
  · refine View.disjoint_slice_of_sep _ _ _ 0 rfl rfl ?_
    have : s.val ≠ s'.val := fun e => h (Fin.ext e)
    show s.val + 1 ≤ s'.val ∨ s'.val + 1 ≤ s.val
    omega
  · refine View.disjoint_slice_of_sep _ _ _ 1 rfl rfl ?_
    have : q.val ≠ q'.val := fun e => h (Fin.ext e)
    show 128 * q.val + 128 ≤ 128 * q'.val ∨ 128 * q'.val + 128 ≤ 128 * q.val
    omega

/-- The rectangle a slot is read through. -/
abbrev slotR (s : Fin 4) : Rect S4x256x4096 := Rect.unit (s := S4x256x4096) ![s.val, 0, 0] S1x256x4096.size (slotw_inb s)

theorem slotR_cover (d : Bool) (s : Fin 4) :
    (bufM d).view.setOn (slotR s).toLoadRect.set ⊆ (slotM d s 0).view.set ∪ (slotM d s 1).view.set := by
  rw [slot_set, slot_set]
  intro i hi
  obtain ⟨j, hj, rfl⟩ := Finset.mem_map.mp hi
  have hj := Rect.mem_set_unit.mp hj
  have h0 := hj 0
  have h1 := hj 1
  have h2 := hj 2
  rw [Finset.mem_union]
  by_cases hq : (j 1).val < 128
  · left
    show _ ∈ ((bufM d).view.slice (Rect.unit (s := S4x256x4096) ![s.val, 128 * (0 : Fin 2).val, 0] S1x128x4096.size (slot_inb s 0))).set
    rw [View.set_slice]
    refine Finset.mem_map_of_mem _ (Rect.mem_set_unit.mpr fun a => ?_)
    match a with
    | ⟨0, _⟩ => exact h0
    | ⟨1, _⟩ => exact ⟨Nat.zero_le _, by show (j 1).val < 0 + 128; omega⟩
    | ⟨2, _⟩ => exact h2
  · right
    show _ ∈ ((bufM d).view.slice (Rect.unit (s := S4x256x4096) ![s.val, 128 * (1 : Fin 2).val, 0] S1x128x4096.size (slot_inb s 1))).set
    rw [View.set_slice]
    refine Finset.mem_map_of_mem _ (Rect.mem_set_unit.mpr fun a => ?_)
    match a with
    | ⟨0, _⟩ => exact h0
    | ⟨1, _⟩ => exact ⟨by show 128 ≤ (j 1).val; omega, by show (j 1).val < 128 + 128; have : (j 1).val < 0 + 256 := h1.2; omega⟩
    | ⟨2, _⟩ => exact h2

theorem slot_value (d : Bool) (s : Fin 4) (q : Fin 2) (f : (bufM d).view.ty.Contents (Elt F)) :
    extr q ((bufM d).view.readAt (Elt F) (slotR s).toLoadRect f) = (slotM d s q).view.read (Elt F) f := by
  funext i
  obtain ⟨a, b, rfl⟩ : ∃ (a : Fin 128) (b : Fin 4096), i = ix2 a b := ⟨i 0, i 1, eq_ix2 i⟩
  refine Eq.trans (b := shapeCast S256x4096 ((bufM d).view.readAt (Elt F) (slotR s).toLoadRect f) shapeCasts_S1x256x4096_S256x4096
    (ix2 (⟨128 * q.val + a.val, by have := q.2; omega⟩ : Fin 256) b)) ?_ ?_
  · match q with
    | 0 =>
      rw [extr]
      exact extractStridedSlice_apply _ _ _ _ _ (Fin.forall_fin_two.mpr ⟨by show 128 * 0 + a.val = 0 + a.val; omega, (Nat.zero_add _).symm⟩)
    | 1 =>
      rw [extr]
      exact extractStridedSlice_apply _ _ _ _ _ (Fin.forall_fin_two.mpr ⟨rfl, (Nat.zero_add _).symm⟩)
  · rw [shapeCast_1ab_ab_apply]
    have hc : S1x128x4096.ShapeCasts S128x4096 := by decide
    refine Eq.trans (b := shapeCast S128x4096 ((bufM d).view.readAt (Elt F)
      (Rect.unit (s := S4x256x4096) ![s.val, 128 * q.val, 0] S1x128x4096.size (slot_inb s q)).toLoadRect f) hc (ix2 a b)) ?_ rfl
    rw [shapeCast_1ab_ab_apply, View.readAt_apply, View.readAt_apply]
    refine congrArg _ (funext fun x => Fin.ext ?_)
    match x with
    | ⟨0, _⟩ => rfl
    | ⟨1, _⟩ => show 0 + 1 * (128 * q.val + a.val) = 128 * q.val + 1 * a.val; omega
    | ⟨2, _⟩ => rfl

/-- The two halves of a slot, as one region read through the whole slot. -/
theorem slot_join (c : Dev nD) (d : Bool) (s : Fin 4) (qs : PosShare TreeShare) (Y : Fin 2 → Vec F S128x4096 .bf16) :
    iprop(owns (c : Thread nD τ) (slotM d s 0) qs (Y 0) ∗ owns (c : Thread nD τ) (slotM d s 1) qs (Y 1))
      ⊢ (iprop(∃ f, ⌜∀ q, (slotM d s q).view.read (Elt F) f = Y q⌝
          ∗ ((bufM d).view.loc (c : Thread nD τ) ↦[(slotM d s 0).view.set ∪ (slotM d s 1).view.set]{qs} f)) : sProp 𝕄) := by
  unfold owns
  iintro ⟨⟨%f, %hf, H0⟩, ⟨%g, %hg, H1⟩⟩
  have hd : Disjoint (slotM d s 0).view.set (slotM d s 1).view.set := slot_disj d (Or.inr (by decide))
  iexists ((slotM d s 1).view.set.piecewise g f)
  isplitr
  · ipureintro
    intro q
    match q with
    | 0 => exact (View.read_congr (Val := Elt F) (v := (slotM d s 0).view) (f := (slotM d s 1).view.set.piecewise g f) (g := f) fun i hi => Finset.piecewise_eq_of_notMem _ _ _ (Finset.disjoint_left.mp hd hi)).trans hf
    | 1 => exact (View.read_congr (Val := Elt F) (v := (slotM d s 1).view) (f := (slotM d s 1).view.set.piecewise g f) (g := g) fun i hi => Finset.piecewise_eq_of_mem _ _ _ hi).trans hg
  · iapply (pointsTo_join hd)
    isplitl [H0]; · iexact H0
    iexact H1

theorem slot_unjoin (c : Dev nD) (d : Bool) (s : Fin 4) (qs : PosShare TreeShare) (f : Buf (Elt F) ((bufM d).view.loc (c : Thread nD τ))) :
    ((bufM d).view.loc (c : Thread nD τ) ↦[(slotM d s 0).view.set ∪ (slotM d s 1).view.set]{qs} f)
      ⊢ (iprop((∃ Y, owns (c : Thread nD τ) (slotM d s 0) qs Y) ∗ (∃ Y, owns (c : Thread nD τ) (slotM d s 1) qs Y)) : sProp 𝕄) := by
  have hd : Disjoint (slotM d s 0).view.set (slotM d s 1).view.set := slot_disj d (Or.inr (by decide))
  iintro H
  ihave H := (pointsTo_union (ℓ := (bufM d).view.loc (c : Thread nD τ)) (q := qs) (f := f) hd).1 $$ H
  icases H with ⟨H0, H1⟩
  isplitl [H0]
  · iexists _; iapply (owns_intro (c : Thread nD τ) (slotM d s 0)); iexact H0
  · iexists _; iapply (owns_intro (c : Thread nD τ) (slotM d s 1)); iexact H1

/-- The left shares the invariant has of a slot, as a load meets them: of the rows the device holds a share of, it knows what it reads. -/
theorem slot_load_step (c : Dev nD) (d : Bool) (s : Fin 4) (q : Fin 2) (qs : PosShare TreeShare) (X : Vec F S128x4096 .bf16)
    {hl : (bufM d).view.LoadsAt (slotR s).toLoadRect} (K : Vec F S1x256x4096 .bf16 → sProp 𝕄) :
    iprop(slotInv c (d, s, 0) ∗ slotInv c (d, s, 1) ∗ tokA c (d, s, 0) ∗ tokA c (d, s, 1) ∗ owns (c : Thread nD τ) (slotM d s q) qs X
      ∗ (∀ v, ⌜extr q v = X⌝ -∗ slotInv c (d, s, 0) -∗ slotInv c (d, s, 1) -∗ tokA c (d, s, 0) -∗ tokA c (d, s, 1)
          -∗ owns (c : Thread nD τ) (slotM d s q) qs X -∗ K v))
      ⊢ fp (Λ := Λ₀) (c : Thread nD τ) (.load (bufM d) (slotR s).toLoadRect hl) K := by
  iintro ⟨H0, H1, A0, A1, HX, HK⟩
  ihave H0 := (slotInv_leftA c (d, s, 0)) $$ [H0 A0]
  · isplitl [H0] <;> iassumption
  ihave H1 := (slotInv_leftA c (d, s, 1)) $$ [H1 A1]
  · isplitl [H1] <;> iassumption
  icases H0 with ⟨H0, A0⟩
  icases H1 with ⟨H1, A1⟩
  ihave H : iprop(∃ Y : Fin 2 → Vec F S128x4096 .bf16, ⌜Y q = X⌝ ∗ owns (c : Thread nD τ) (slotM d s q) qs X
      ∗ owns (c : Thread nD τ) (slotM d s 0) fullShare.left (Y 0) ∗ owns (c : Thread nD τ) (slotM d s 1) fullShare.left (Y 1)) $$ [H0 H1 HX]
  · match q with
    | 0 =>
      icases H1 with ⟨%Y', H1⟩
      ihave HX := (owns_agree (c : Thread nD τ) (slotM d s 0) qs (Φ := fun _ => True) fullShare.left X) $$ [HX H0]
      · isplitl [HX]; · iexact HX
        iapply (ownsSat_true (c : Thread nD τ) (slotM d s 0) fullShare.left).2; iexact H0
      icases HX with ⟨HX, H0⟩
      iexists ![X, Y']
      isplitr; · ipureintro; rfl
      isplitl [HX]; · iexact HX
      isplitl [H0]; · iexact H0
      iexact H1
    | 1 =>
      icases H0 with ⟨%Y', H0⟩
      ihave HX := (owns_agree (c : Thread nD τ) (slotM d s 1) qs (Φ := fun _ => True) fullShare.left X) $$ [HX H1]
      · isplitl [HX]; · iexact HX
        iapply (ownsSat_true (c : Thread nD τ) (slotM d s 1) fullShare.left).2; iexact H1
      icases HX with ⟨HX, H1⟩
      iexists ![Y', X]
      isplitr; · ipureintro; rfl
      isplitl [HX]; · iexact HX
      isplitl [H0]; · iexact H0
      iexact H1
  icases H with ⟨%Y, %hY, HX, H0, H1⟩
  ihave H := (slot_join c d s fullShare.left Y) $$ [H0 H1]
  · isplitl [H0] <;> iassumption
  icases H with ⟨%f, %hf, H⟩
  iapply (fp_load (Λ := Λ₀) (c : Thread nD τ) (slotR_cover d s)) $$ H
  iintro H
  ihave H := (slot_unjoin c d s fullShare.left f) $$ H
  icases H with ⟨H0, H1⟩
  iapply HK $$ %_ [] [H0] [H1] [A0] [A1] [HX]
  · ipureintro; rw [slot_value, hf, hY]
  · unfold slotInv; ileft; iexact H0
  · unfold slotInv; ileft; iexact H1
  · iexact A0
  · iexact A1
  · iexact HX

end Cert.KernelIdeal.Ring2
end
-- ==== Proof.Steps.lean ====
/-
  The ring's communication: a hop, the two waits of an arrival, and what a lane holds between the steps.
-/
module

public import proofs.«01_k».proof.Proof.Slots

@[expose] public section

set_option maxRecDepth 16384

noncomputable section

namespace Cert.KernelIdeal.Ring2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Option Slot → ℕ) (κ : ℕ)

abbrev 𝒱₀ : Variants := Variants.none

/-- A device runs a program of this kernel to a postcondition. -/
abbrev WP (c : Dev nD) {α : Type} (p : PT F α) (Q : α → sProp 𝕄) : sProp 𝕄 :=
  wp frame (wpE (defs₀ (F := F)) 𝒱₀ (c : Thread nD τ) none) Set.univ p Q

/-- A program's specification, used at the head of a longer one. -/
theorem WP_step {c : Dev nD} {α β : Type} {p : PT F α} {P : sProp 𝕄} {R : α → sProp 𝕄} (h : P ⊢ WP c p R)
    {k : α → PT F β} {Q : β → sProp 𝕄} : P ⊢ iprop((∀ x, R x -∗ WP c (k x) Q) -∗ WP c (p >>= k) Q) := by
  unfold WP
  rw [wp_bind]
  exact h.trans (wp_wand _ _ _)

theorem WP_last {c : Dev nD} {α : Type} {p : PT F α} {P : sProp 𝕄} {R : α → sProp 𝕄} (h : P ⊢ WP c p R)
    {Q : α → sProp 𝕄} : P ⊢ iprop((∀ x, R x -∗ Q x) -∗ WP c p Q) := h.trans (wp_wand _ _ _)

theorem WP_ret {c : Dev nD} {α : Type} (x : α) {Q : α → sProp 𝕄} : Q x ⊢ WP (F := F) c (Prog.ret x) Q := BI.fupd_intro

/-! ## What is known throughout -/

def kcell : Dev nD × Option Slot → GSem nD τ sig
  | (c, none) => barCell c
  | (c, some (d, s, q)) => rcell c d s q

/-- The cells' invariants of all devices, the slots' invariant, the order of the waits. -/
def Invs : sProp 𝕄 :=
  iprop(bigSep Finset.univ (fun p : Dev nD × Option Slot => cellInv ER (Rd m) (K p) (kcell p)) ∗ inv κ (slotsBody (F := F)) ∗ levAts L lv)
instance Invs_persistent : BI.Persistent (Invs m K κ : sProp 𝕄) := by unfold Invs; infer_instance

theorem Invs_cell (p : Dev nD × Option Slot) : (Invs m K κ : sProp 𝕄) ⊢ cellInv ER (Rd m) (K p) (kcell p) := by
  unfold Invs; iintro ⟨H, -, -⟩
  iapply (show (bigSep Finset.univ (fun p : Dev nD × Option Slot => cellInv ER (Rd m) (K p) (kcell p)) : sProp 𝕄) ⊢ cellInv ER (Rd m) (K p) (kcell p) from
    bigSep_elim (Finset.mem_univ p)); iexact H
theorem Invs_slots : (Invs m K κ : sProp 𝕄) ⊢ inv κ (slotsBody (F := F)) := by
  unfold Invs; iintro ⟨-, H, -⟩; iexact H
theorem Invs_lev : (Invs m K κ : sProp 𝕄) ⊢ levAts L lv := by
  unfold Invs; iintro ⟨-, -, H⟩; iexact H

/-- The device owes what the hops after the first `k` put on their targets. -/
def Ow (c : Dev nD) (k : ℕ) : sProp 𝕄 := iprop(∃ W, owes (c : Thread nD τ) (Orem c k) W)

/-! ## A hop -/

/-- The share of the rows a hop lends: of the device's own the left half, of a slot the left half of what the writer's right is. -/
def shr : ℕ → PosShare TreeShare
  | 0 => fullShare.left
  | _ + 1 => fullShare.right.left

def srcD (c : Dev nD) (d : Bool) (q : Fin 2) (g : ℕ) : sProp 𝕄 := owns (c : Thread nD τ) (srcM d q g) (shr g) (X m c d q g)
def semS (c : Dev nD) (d : Bool) (q : Fin 2) (a : ℕ) : sProp 𝕄 := semVal (scell c d (sl a) q) 0
def dutT (c : Dev nD) (d : Bool) (q : Fin 2) (a : ℕ) : sProp 𝕄 := dutyTok ER (rcell (tgt d c) d (sl a) q) (rnd a) false
def credA (c : Dev nD) (d : Bool) (q : Fin 2) (a : ℕ) : sProp 𝕄 := cred (tallyAt (rcell c d (sl a) q) a N)
def posA (c : Dev nD) (d : Bool) (q : Fin 2) (a : ℕ) : sProp 𝕄 := atPos ER (rcell c d (sl a) q) (rnd a) ∅ 0
def openA (c : Dev nD) (d : Bool) (q : Fin 2) (a : ℕ) : sProp 𝕄 := reached ER (rcell c d (sl a) q) (rnd a)
instance openA_persistent (c : Dev nD) (d : Bool) (q : Fin 2) (a : ℕ) : BI.Persistent (openA (F := F) c d q a) := by unfold openA; infer_instance
def flyA (c : Dev nD) (d : Bool) (q : Fin 2) (g : ℕ) : sProp 𝕄 :=
  Flight EC (c : Thread nD τ) (.dma (ssS d (sl g) q)) 0 N (srcD m c d q g)

theorem X_succ (c : Dev nD) (d : Bool) (q : Fin 2) (g : Fin 7) : X m (tgt d c) d q (g.val + 1) = X m c d q g.val := by
  unfold X; rw [org_succ]

/-- A hop to the device `v`. -/
def hopTo (v : Dev nD) (d : Bool) (q : Fin 2) (g : ℕ) : PT F PUnit :=
  Prog.lift (.enqueueDma (srcM d q g) (.remote (Dev.tc v) (dstM d q (g + 1)) (.dma (ssS d (sl g) q)))
    (.dma (rsS d (sl (g + 1)) q)) (srcM_exact d q g) (dstM_exact d q (g + 1)) ⟨⟨rfl, Or.inl rfl⟩, trivial⟩)
theorem hop_eq (c : Dev nD) (d : Bool) (q : Fin 2) {g : ℕ} (hg : g < 7) : hop (F := F) c d q g = hopTo (tgt d c) d q g := by
  rw [← hopDev_eq c d q ⟨g, hg⟩]; rfl

set_option maxHeartbeats 1000000 in
theorem hop_spec (c : Dev nD) (d : Bool) (q : Fin 2) {g : ℕ} (hg : g < 7) :
    iprop(Invs m K κ ∗ srcD m c d q g ∗ semS c d q g ∗ tgtRes c d q g ∗ dutT c d q (g + 1) ∗ carry (tgt d c) d q (g + 1) ∗ Ow c (hopIx d q g))
      ⊢ WP c (hop c d q g) (fun _ => iprop(flyA m c d q g ∗ Ow c (hopIx d q g + 1))) := by
  have hlt : hopIx d q g < 28 := by have := q.2; unfold hopIx; cases d <;> simp <;> omega
  have hN : (dstM d q (g + 1)).view.amount (.dma (rsS d (sl (g + 1)) q)) = N := slot_credit d (sl (g + 1)) q
  have hO : Orem c (hopIx d q g) = Orem c (hopIx d q g + 1) + tallyAt ((tgt d c : Thread nD τ), .dma (rsS d (sl (g + 1)) q)) (g + 1) N := by
    rw [Orem_succ c hlt, hopT_ix]
  rw [hop_eq c d q hg]
  unfold hopTo Prog.lift srcD owns semS tgtRes dutT Ow
  iintro ⟨#HI, ⟨%fs, %hfs, Hs⟩, Hv, ⟨Hslot, #Hr⟩, Htok, Hcar, ⟨%W, HO⟩⟩
  ihave #Hcell := (Invs_cell m K κ (tgt d c, some (d, sl (g + 1), q))) $$ HI
  ihave #Hsl := (Invs_slots m K κ) $$ HI
  imod (flight_alloc EC N_pos iprop((srcM d q g).view.loc (c : Thread nD τ) ↦[(srcM d q g).view.set]{shr g} fs)
    (g := scell c d (sl g) q)) $$ Hv with ⟨%γ, %δ, %κ', #Hinv, Hγ, Hδ⟩
  ihave Hw := (slot_writeUpdate κ (tgt d c) d (sl (g + 1)) q ((srcM d q g).view.read (Elt F) fs)) $$ [Hslot]
  · isplitr; · iexact Hsl
    iexact Hslot
  ihave Hw := (writeUpdate_frame (tgt d c : Thread nD τ) (F := carry (tgt d c) d q (g + 1))) $$ [Hw Hcar]
  · isplitl [Hw]; · iexact Hw
    iexact Hcar
  iapply (wp_enqueueDma_remote 𝒱₀ (c : Thread nD τ) none Set.univ (c' := (tgt d c : Thread nD τ)) (src := srcM d q g) (dst := dstM d q (g + 1))
    (sS := .dma (ssS d (sl g) q)) (sem := .dma (rsS d (sl (g + 1)) q)) false (g + 1) 0 (Orem c (hopIx d q g + 1)) N hN hO) $$ [Hs Hw HO] [Hγ] [Htok]
  · isplitl [Hs]; · iexact Hs
    isplitl [Hw]; · iexact Hw
    iexact HO
  · iapply (flight_creditUpdate EC (δ := δ) (ι := κ'))
    isplitr; · iexact Hinv
    iexact Hγ
  · have hr7 : arr (sl (g + 1)) (rnd (g + 1)) ≤ 7 := by rw [arr_rnd (by omega) (by omega)]; omega
    have hl := land_credit ER (Rd m) (κ := K (tgt d c, some (d, sl (g + 1), q))) (g := rcell (tgt d c) d (sl (g + 1)) q) (r := rnd (g + 1)) (d := false)
      (by rw [duties_recv _ _ _ _ _ hr7]; exact Finset.mem_singleton_self _)
      (X := iprop(slotV (tgt d c) (d, sl (g + 1), q) ((srcM d q g).view.read (Elt F) fs) ∗ carry (tgt d c) d q (g + 1)))
      (by rw [payload_recv, arr_rnd (by omega) (by omega), recvPay, X_succ m c d q ⟨g, hg⟩, hfs])
    rw [amount_recv] at hl
    iapply hl
    isplitr; · iexact Hcell
    isplitl [Htok]; · iexact Htok
    iexact Hr
  iintro ⟨Hc, HO⟩
  iapply WP_ret
  isplitl [Hc Hδ]
  · unfold flyA
    iapply (Flight_mono EC (c : Thread nD τ) (D := iprop((srcM d q g).view.loc (c : Thread nD τ) ↦[(srcM d q g).view.set]{shr g} fs)) ?_)
    rotate_left
    · iapply (flight_intro EC (c : Thread nD τ) (κ := κ'))
      isplitr; · iexact Hinv
      isplitl [Hδ] <;> iassumption
    · unfold srcD owns
      iintro H; iexists fs
      isplitr; · ipureintro; exact hfs
      iexact H
  · iexists W; iexact HO

/-! ## The waits of an arrival -/

theorem waitS_spec (c : Dev nD) (d : Bool) (q : Fin 2) (g k : ℕ) :
    iprop(Invs m K κ ∗ flyA m c d q g ∗ Ow c k) ⊢ WP c (waitS d q g) (fun _ => iprop(srcD m c d q g ∗ semS c d q g ∗ Ow c k)) := by
  unfold waitS Prog.lift flyA semS Ow
  iintro ⟨#HI, Hf, %W, HO⟩
  ihave #Hlev := (Invs_lev m K κ) $$ HI
  iapply (wp_waitLocalO EC 𝒱₀ (c : Thread nD τ) none 0 (src_credit d q g)) $$ [Hf HO]
  · isplitl [Hf]; · iexact Hf
    isplitl [HO]; · iexact HO
    iapply (mayWait c _ 0 k (Nat.zero_le _) (by decide)); iexact Hlev
  iintro ⟨HD, Hv, HO⟩
  iapply WP_ret
  isplitl [HD]; · iexact HD
  isplitl [Hv]; · iexact Hv
  iexists _; iexact HO

theorem waitR_spec (c : Dev nD) (d : Bool) (q : Fin 2) {g k : ℕ} (hg : g < 7) (hk : g + 1 ≤ k / 4) :
    iprop(Invs m K κ ∗ credA c d q (g + 1) ∗ posA c d q (g + 1) ∗ Ow c k)
      ⊢ WP c (waitR d q g) (fun _ => iprop(recvPay m c (d, sl (g + 1), q) (g + 1) ∗ posA c d q (g + 5) ∗ openA c d q (g + 5) ∗ Ow c k)) := by
  have h5 : rnd (g + 1) + 1 = rnd (g + 5) := by unfold rnd; omega
  have hs : sl (g + 5) = sl (g + 1) := by apply Fin.ext; show (g + 5) % 4 = (g + 1) % 4; omega
  have hr7 : arr (sl (g + 1)) (rnd (g + 1)) ≤ 7 := by rw [arr_rnd (by omega) (by omega)]; omega
  unfold waitR Prog.lift credA posA openA Ow
  rw [hs, ← h5]
  iintro ⟨#HI, Hc, Hp, %W, HO⟩
  ihave #Hlev := (Invs_lev m K κ) $$ HI
  ihave #Hcell := (Invs_cell m K κ (c, some (d, sl (g + 1), q))) $$ HI
  iapply (wp_wait_rest_token 𝒱₀ ER (Rd m) (c : Thread nD τ) none (κ := K (c, some (d, sl (g + 1), q)))
    (wpE_waitDma2_eq 𝒱₀ (c : Thread nD τ) none Set.univ) (Set.mem_univ _) (g + 1) (O := Orem c k) (W := W) (R := rnd (g + 1)) (m := 0) (T := ∅)
    (by rw [expect_recv _ _ _ _ _ hr7, Nat.zero_add])) $$ [Hc Hp HO]
  · isplitr; · iexact Hcell
    isplitl [Hc]; · iexact Hc
    isplitl [HO]; · iexact HO
    isplitr; · iapply (mayWait c _ (g + 1) k hk (by omega)); iexact Hlev
    iexact Hp
  iintro ⟨HO, Hp, Hr, Hpay⟩
  ihave Hpay := (Entails.of_eq (rest_recv m c d q (by omega : 1 ≤ g + 1) (by omega : g + 1 ≤ 7))) $$ Hpay
  iapply WP_ret
  isplitl [Hpay]; · iexact Hpay
  isplitl [Hp]; · iexact Hp
  isplitl [Hr]; · iexact Hr
  iexists _; iexact HO

end Cert.KernelIdeal.Ring2
end
-- ==== Proof.Lane.lean ====
/-
  What a lane holds between its steps, and a step's waits, hop and load.
-/
module

public import proofs.«01_k».proof.Proof.Steps
public import Idealize.SL.BI.BigOpNat

@[expose] public section

set_option maxRecDepth 16384

noncomputable section

namespace Cert.KernelIdeal.Ring2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Option Slot → ℕ) (κ : ℕ)

/-- A resource for each number from `a` to below `b`. -/
def rng (a b : ℕ) (A : ℕ → sProp 𝕄) : sProp 𝕄 := bigSep (Finset.Ico a b) A

theorem rng_pop {a b : ℕ} (h : a < b) (A : ℕ → sProp 𝕄) : rng a b A = iprop(A a ∗ rng (a + 1) b A) := bigSep_Ico_succ_bot h A
theorem rng_push {a b : ℕ} (h : a ≤ b) (A : ℕ → sProp 𝕄) : rng a (b + 1) A = iprop(A b ∗ rng a b A) := bigSep_Ico_succ_top h A
theorem rng_none {a b : ℕ} (h : b ≤ a) (A : ℕ → sProp 𝕄) : rng a b A = iprop(emp) := by
  unfold rng; rw [Finset.Ico_eq_empty (by omega)]; rfl

theorem sl_add (g : ℕ) : sl (g + 4) = sl g := by apply Fin.ext; show (g + 4) % 4 = g % 4; omega

section Lane
variable (c : Dev nD) (d : Bool) (q : Fin 2)

/-- What is left to the device of the slot (or, at first, beside its own rows) that hop `g` sends. -/
def Rem : ℕ → sProp 𝕄
  | 0 => slotO c (d, sl 0, q)
  | g + 1 => iprop(owns (c : Thread nD τ) (slotM d (sl (g + 1)) q) fullShare.right.right (X m c d q (g + 1)) ∗ tokB c (d, sl (g + 1), q))

/-- The share of the device's own rows that hop 0 lent, once it is back. -/
def XR : ℕ → sProp 𝕄
  | 0 => iprop(emp)
  | _ + 1 => srcD m c d q 0

/-- The slot the hop after hop `g` will fill. -/
def TG (g : ℕ) : sProp 𝕄 := if g + 1 ≤ 6 then tgtRes c d q (g + 1) else iprop(emp)

/-- The lane's slots that are done. -/
def KP (g : ℕ) : sProp 𝕄 := rng 4 g fun a => slotO c (d, sl a, q)

/-- Hop `g` is in flight. -/
def Lane0 (g : ℕ) : sProp 𝕄 :=
  iprop(rng (g + 1) (g + 5) (posA c d q) ∗ rng (g + 1) 8 (credA c d q) ∗ rng (g + 2) 8 (dutT c d q) ∗ rng (g + 1) (g + 4) (semS c d q)
    ∗ flyA m c d q g ∗ openA c d q (g + 4) ∗ XR m c d q g)
def Lane (g : ℕ) : sProp 𝕄 := iprop(Lane0 m c d q g ∗ Rem m c d q g ∗ KP c d q g ∗ TG c d q g)

/-- Arrival `g + 1` is here. -/
def Mid (g : ℕ) : sProp 𝕄 :=
  iprop(rng (g + 2) (g + 6) (posA c d q) ∗ rng (g + 2) 8 (credA c d q) ∗ rng (g + 2) 8 (dutT c d q) ∗ rng (g + 1) (g + 5) (semS c d q)
    ∗ slotV c (d, sl (g + 1), q) (X m c d q (g + 1)) ∗ TG c d q g ∗ openA c d q (g + 5) ∗ XR m c d q (g + 1))
/-- What the arrival leaves for the opposite lane to use. -/
def Sw (g : ℕ) : sProp 𝕄 :=
  iprop(slotO c (d, sl g, q) ∗ openA c d q (g + 4) ∗ KP c d q g ∗ carry c d q (g + 1))

theorem rem_join (g : ℕ) :
    iprop(srcD m c d q g ∗ Rem m c d q g ∗ XR m c d q g) ⊢ (iprop(slotO c (d, sl g, q) ∗ XR m c d q (g + 1)) : sProp 𝕄) := by
  match g with
  | 0 =>
    unfold Rem XR
    iintro ⟨H, HR, -⟩
    isplitl [HR] <;> iassumption
  | g + 1 =>
    unfold Rem XR srcD slotO slotV
    iintro ⟨H, ⟨HR, HB⟩, HX⟩
    isplitr [HX]
    · iexists (X m c d q (g + 1))
      isplitr [HB]
      · iapply (owns_halves (c : Thread nD τ) (slotM d (sl (g + 1)) q) fullShare.right _).2
        isplitl [H]; · iexact H
        iexact HR
      · iexact HB
    · iexact HX

theorem rem_split (g : ℕ) :
    (slotV c (d, sl (g + 1), q) (X m c d q (g + 1)) : sProp 𝕄) ⊢ iprop(srcD m c d q (g + 1) ∗ Rem m c d q (g + 1)) := by
  unfold Rem srcD slotV
  iintro ⟨H, HB⟩
  ihave H := (owns_halves (c : Thread nD τ) (slotM d (sl (g + 1)) q) fullShare.right _).1 $$ H
  icases H with ⟨Hl, Hr⟩
  isplitl [Hl]; · iexact Hl
  isplitl [Hr] <;> iassumption

/-- The sender's slot goes with the rows. -/
theorem carry_intro {a : ℕ} (h₁ : 1 ≤ a) (h₂ : a ≤ 5) :
    iprop(slotO c (!d, sl (a + 2), q) ∗ openA c (!d) q (a + 2)) ⊢ (carry (tgt d c) d q a : sProp 𝕄) := by
  unfold carry tgtRes openA
  rw [if_pos ⟨h₁, h₂⟩, tgt_tgt]

theorem carry_none {a : ℕ} (h : 5 < a) : (carry c d q a : sProp 𝕄) = iprop(emp) := by
  unfold carry; rw [if_neg (by omega)]

theorem sw_use {g : ℕ} (hg : g ≤ 5) :
    (Sw c (!d) q g : sProp 𝕄) ⊢ iprop(carry (tgt d c) d q (g + 2) ∗ KP c (!d) q (g + 1) ∗ TG c d q (g + 1)) := by
  have hT : (carry c (!d) q (g + 1) : sProp 𝕄) = TG c d q (g + 1) := by
    unfold carry TG
    rw [Bool.not_not]
    by_cases h : g ≤ 4
    · rw [if_pos (by omega), if_pos (by omega)]
    · rw [if_neg (by omega), if_neg (by omega)]
  unfold Sw
  rw [hT]
  by_cases h : g ≤ 3
  · have hK : (KP c (!d) q (g + 1) : sProp 𝕄) = iprop(emp) := rng_none (by omega) _
    have hc := carry_intro (F := F) c d q (a := g + 2) (by omega) (by omega)
    rw [sl_add] at hc
    rw [hK]
    iintro ⟨Hs, Ho, -, HT⟩
    isplitl [Hs Ho]
    · iapply hc; isplitl [Hs] <;> iassumption
    isplitr; · iempintro
    iexact HT
  · have hK : (KP c (!d) q (g + 1) : sProp 𝕄) = iprop(slotO c (!d, sl g, q) ∗ KP c (!d) q g) := rng_push (by omega) _
    rw [hK, carry_none _ _ _ (by omega)]
    iintro ⟨Hs, -, HK, HT⟩
    isplitr; · iempintro
    isplitl [Hs HK]; · isplitl [Hs] <;> iassumption
    iexact HT

/-- The two waits of an arrival. -/
theorem arrive1_spec {g k : ℕ} (hg : g < 7) (hk : g + 1 ≤ k / 4) {R : sProp 𝕄} {α : Type} {p : PT F α} {Q : α → sProp 𝕄}
    (h : iprop(R ∗ Mid m c d q g ∗ Sw c d q g ∗ Ow c k) ⊢ WP c p Q) :
    iprop(Invs m K κ ∗ R ∗ Lane m c d q g ∗ Ow c k) ⊢ WP c (do waitS d q g; waitR d q g; p) Q := by
  unfold Lane Lane0
  rw [rng_pop (by omega) (posA c d q), rng_pop (by omega) (credA c d q)]
  iintro ⟨#HI, HR, ⟨⟨⟨Hp, Hps⟩, ⟨Hc, Hcs⟩, Hd, Hs, Hf, #Ho, HX⟩, Hrem, HK, HT⟩, HO⟩
  iapply (WP_step (waitS_spec m K κ c d q g k)) $$ [Hf HO]
  · isplitr; · iexact HI
    isplitl [Hf] <;> iassumption
  iintro %_ ⟨HD, Hv, HO⟩
  iapply (WP_step (waitR_spec m K κ c d q hg hk)) $$ [Hc Hp HO]
  · isplitr; · iexact HI
    isplitl [Hc]; · iexact Hc
    isplitl [Hp] <;> iassumption
  iintro %_ ⟨Hpay, Hp, #Hop, HO⟩
  unfold recvPay
  icases Hpay with ⟨Hslot, Hcar⟩
  ihave Hj := (rem_join m c d q g) $$ [HD Hrem HX]
  · isplitl [HD]; · iexact HD
    isplitl [Hrem] <;> iassumption
  icases Hj with ⟨HsO, HX⟩
  iapply h
  isplitl [HR]; · iexact HR
  isplitr [HsO HK Hcar HO]
  · unfold Mid
    rw [rng_push (b := g + 5) (by omega) (posA c d q), rng_push (b := g + 4) (by omega) (semS c d q)]
    isplitl [Hp Hps]; · isplitl [Hp] <;> iassumption
    isplitl [Hcs]; · iexact Hcs
    isplitl [Hd]; · iexact Hd
    isplitl [Hv Hs]
    · isplitl [Hv]
      · unfold semS; rw [sl_add]; iexact Hv
      · iexact Hs
    isplitl [Hslot]; · iexact Hslot
    isplitl [HT]; · iexact HT
    isplitr; · iexact Hop
    iexact HX
  isplitr [HO]
  · unfold Sw
    isplitl [HsO]; · iexact HsO
    isplitr; · iexact Ho
    isplitl [HK] <;> iassumption
  · iexact HO

/-- The hop that passes an arrival on. -/
theorem pass1_spec {g : ℕ} (hg : g < 6) {R : sProp 𝕄} {α : Type} {p : PT F α} {Q : α → sProp 𝕄}
    (h : iprop(R ∗ (Lane0 m c d q (g + 1) ∗ Rem m c d q (g + 1)) ∗ Ow c (hopIx d q (g + 1) + 1)) ⊢ WP c p Q) :
    iprop(Invs m K κ ∗ R ∗ Mid m c d q g ∗ carry (tgt d c) d q (g + 2) ∗ Ow c (hopIx d q (g + 1))) ⊢ WP c (do hop c d q (g + 1); p) Q := by
  have hT : (TG c d q g : sProp 𝕄) = tgtRes c d q (g + 1) := if_pos (by omega)
  unfold Mid
  rw [rng_pop (by omega) (dutT c d q), rng_pop (by omega) (semS c d q), hT]
  iintro ⟨#HI, HR, ⟨Hp, Hc, ⟨Hd, Hds⟩, ⟨Hs, Hss⟩, Hslot, HT, #Ho, HX⟩, Hcar, HO⟩
  ihave Hsl := (rem_split m c d q g) $$ Hslot
  icases Hsl with ⟨HD, Hrem⟩
  iapply (WP_step (hop_spec m K κ c d q (g := g + 1) (by omega))) $$ [HD Hs HT Hd Hcar HO]
  · isplitr; · iexact HI
    isplitl [HD]; · iexact HD
    isplitl [Hs]; · iexact Hs
    isplitl [HT]; · iexact HT
    isplitl [Hd]; · iexact Hd
    isplitl [Hcar] <;> iassumption
  iintro %_ ⟨Hf, HO⟩
  iapply h
  isplitl [HR]; · iexact HR
  isplitr [HO]
  · isplitr [Hrem]
    · unfold Lane0
      isplitl [Hp]; · iexact Hp
      isplitl [Hc]; · iexact Hc
      isplitl [Hds]; · iexact Hds
      isplitl [Hss]; · iexact Hss
      isplitl [Hf]; · iexact Hf
      isplitr; · iexact Ho
      iexact HX
    · iexact Hrem
  · iexact HO

end Lane

/-! ## Loading a slot -/

/-- The tokens that let a device read its slots. -/
def TokA (c : Dev nD) : sProp 𝕄 := bigSep Finset.univ fun p : Slot => tokA c p

theorem TokA_acc (c : Dev nD) (d : Bool) (s : Fin 4) :
    (TokA c : sProp 𝕄) ⊢ iprop(tokA c (d, s, 0) ∗ tokA c (d, s, 1) ∗ (tokA c (d, s, 0) -∗ tokA c (d, s, 1) -∗ TokA c)) := by
  have hm : ((d, s, 1) : Slot) ∈ Finset.univ.erase (d, s, 0) :=
    Finset.mem_erase.mpr ⟨fun e => absurd (Prod.mk.inj (Prod.mk.inj e).2).2 (by decide), Finset.mem_univ _⟩
  have h : (TokA c : sProp 𝕄) = iprop(tokA c (d, s, 0) ∗ tokA c (d, s, 1)
      ∗ bigSep ((Finset.univ.erase (d, s, 0)).erase (d, s, 1)) fun p : Slot => tokA c p) := by
    unfold TokA
    rw [bigSep_univ_split ((d, s, 0) : Slot), bigSep_erase hm]
    rfl
  rw [h]
  iintro ⟨Ha, Hb, Hrest⟩
  isplitl [Ha]; · iexact Ha
  isplitl [Hb]; · iexact Hb
  iintro Ha Hb
  isplitl [Ha]; · iexact Ha
  isplitl [Hb] <;> iassumption

theorem loadSlot_spec (c : Dev nD) (d : Bool) (s : Fin 4) (q : Fin 2) (qs : PosShare TreeShare) (Y : Vec F S128x4096 .bf16) :
    iprop(Invs m K κ ∗ TokA c ∗ owns (c : Thread nD τ) (slotM d s q) qs Y)
      ⊢ WP c (loadSlot d s) (fun v => iprop(⌜extr q v = Y⌝ ∗ TokA c ∗ owns (c : Thread nD τ) (slotM d s q) qs Y)) := by
  unfold loadSlot Prog.lift
  iintro ⟨#HI, HA, HY⟩
  ihave #Hinv := (Invs_slots m K κ) $$ HI
  ihave HA := (TokA_acc c d s) $$ HA
  icases HA with ⟨A0, A1, HA⟩
  imod (inv_acc (Set.mem_univ κ)) $$ Hinv with ⟨Hb, Hclose⟩
  ihave Hb := (slotsBody_acc₂ c (p := (d, s, 0)) (p' := (d, s, 1)) (fun e => absurd (Prod.mk.inj (Prod.mk.inj e).2).2 (by decide))) $$ Hb
  icases Hb with ⟨H0, H1, Hback⟩
  imodintro
  iapply (slot_load_step c d s q qs Y)
  isplitl [H0]; · iexact H0
  isplitl [H1]; · iexact H1
  isplitl [A0]; · iexact A0
  isplitl [A1]; · iexact A1
  isplitl [HY]; · iexact HY
  iintro %v %hv H0 H1 A0 A1 HY
  ihave Hb := Hback $$ H0 H1
  ihave Hc := Hclose $$ Hb
  imod Hc
  imodintro
  iapply WP_ret
  isplitr; · ipureintro; exact hv
  isplitl [A0 A1 HA]
  · iapply HA $$ A0 A1
  · iexact HY

end Cert.KernelIdeal.Ring2
end
-- ==== Proof.Out.lean ====
/-
  The output side: copies inside a device, the staging slots, and the blocks of rows a step writes.
-/
module

public import proofs.«01_k».proof.Proof.Lane
public import Idealize.ShloMosaic.Lib.VecWindow

@[expose] public section

set_option maxRecDepth 16384

noncomputable section

namespace Cert.KernelIdeal.Ring2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Option Slot → ℕ) (κ : ℕ)

/-- A memref's elements at some contents. -/
def anyOf (c : Dev nD) {sp : Space} {s : Shape} {e : EltTy} (M : Memref sig .tc sp s e) : sProp 𝕄 :=
  iprop(∃ Y, owns (c : Thread nD τ) M fullShare Y)

theorem anyOf_intro (c : Dev nD) {sp : Space} {s : Shape} {e : EltTy} (M : Memref sig .tc sp s e) (Y : Vec F s e) :
    (owns (c : Thread nD τ) M fullShare Y : sProp 𝕄) ⊢ anyOf c M := by
  unfold anyOf; iintro H; iexists Y; iexact H

/-- A view's points-to. -/
def ptsV (c : Dev nD) {sp : Space} {s : Shape} {e : EltTy} (v : View sig .tc sp s e) (q : PosShare TreeShare) (f : Buf (Elt F) (v.loc (c : Thread nD τ))) : sProp 𝕄 :=
  iprop(v.loc (c : Thread nD τ) ↦[v.set]{q} f)

/-- A load of one rectangle. -/
theorem load_spec (c : Dev nD) {sp : CoreSpace} {s : Shape} {e : EltTy} (M : Memref sig .tc sp s e) (r : Rect s) {hl : M.view.LoadsAt r.toLoadRect}
    (q : PosShare TreeShare) (f : Buf (Elt F) ((M.access r).loc (c : Thread nD τ))) :
    (ptsV c (M.access r) q f : sProp 𝕄) ⊢ WP c (Prog.lift (.load M r.toLoadRect hl)) (fun v => iprop(⌜v = (M.access r).read (Elt F) f⌝ ∗ ptsV c (M.access r) q f)) := by
  unfold ptsV Prog.lift
  iintro H
  iapply (wp_load_rect (defs := defs₀ (F := F)) (Γ := .empty) 𝒱₀ (c : Thread nD τ) none Set.univ (m := M) (r := r) (hl := hl) (q := q) (f := f) subset_rfl) $$ H
  iintro H
  iapply WP_ret
  isplitr; · ipureintro; rfl
  iexact H

/-- A store of one rectangle. -/
theorem store_spec (c : Dev nD) {sp : CoreSpace} {s : Shape} {e : EltTy} (M : Memref sig .tc sp s e) (r : Rect s) (w : r.shape.Idx → Elt F e)
    {hx : (M.access r).Stores Finset.univ} {hm : Finset.univ = Finset.univ ∨ ∀ a, r.stride a = 1} (f : Buf (Elt F) ((M.access r).loc (c : Thread nD τ))) :
    (ptsV c (M.access r) fullShare f : sProp 𝕄) ⊢ WP c (Prog.lift (.store M r w Finset.univ hx hm))
      (fun _ => ptsV c (M.access r) fullShare ((M.access r).write (Elt F) f w Finset.univ)) := by
  unfold ptsV Prog.lift
  iintro H
  iapply (wp_store (defs := defs₀ (F := F)) (Γ := .empty) 𝒱₀ (c : Thread nD τ) none Set.univ (m := M) (r := r) (w := w) (Mk := Finset.univ) (hx := hx) (hm := hm) (f := f)
    (S := (M.access r).set) (View.setOn_subset_set _ _)) $$ H
  iintro H
  iapply WP_ret
  iexact H

/-- A copy inside the device. -/
theorem copy_spec (c : Dev nD) {sp sp' : Space} {s : Shape} {e : EltTy} (src : Memref sig .tc sp s e) (dst : Memref sig .tc sp' s e)
    (sm : DmaSem sig) {hsrc : src.view.WordExact} {hdst : dst.view.WordExact} {hsem : DmaTarget.Typed (nD := nD) (τ := τ) (p := Proc.tc) sp (.dma sm) (.here dst)}
    (q : PosShare TreeShare) (Y : Vec F s e) {n : ℕ} (hn : dst.view.dmaCredit = n) (hn0 : 0 < n) :
    iprop(owns (c : Thread nD τ) src q Y ∗ anyOf c dst ∗ semVal ((c : Thread nD τ), .dma sm) 0)
      ⊢ WP (F := F) c (Prog.lift (.enqueueDma (p := Proc.tc) src (.here dst) (.dma sm) hsrc hdst hsem))
          (fun _ => Flight EC (c : Thread nD τ) (.dma sm) 0 n iprop(owns (c : Thread nD τ) dst fullShare Y ∗ owns (c : Thread nD τ) src q Y)) := by
  unfold anyOf owns Prog.lift
  iintro ⟨⟨%fs, %hfs, Hs⟩, ⟨%Y', %fd, -, Hd⟩, Hv⟩
  iapply (wp_dmaLocal EC 𝒱₀ (c : Thread nD τ) none 0 n (src := src) (dst := dst) (via := ReadAs.same) (sm := .dma sm) hn hn0 subset_rfl) $$ [Hs Hd Hv]
  · isplitl [Hs]; · iexact Hs
    isplitl [Hd] <;> iassumption
  iintro Hf
  iapply WP_ret
  iapply (Flight_mono EC (c : Thread nD τ) ?_) $$ Hf
  iintro ⟨Hd, Hs⟩
  isplitl [Hd]
  · iexists (dst.view.write (Elt F) fd (src.view.read (Elt F) fs) Finset.univ)
    isplitr; · ipureintro; rw [View.read_write_univ]; exact hfs
    iexact Hd
  · iexists fs
    isplitr; · ipureintro; exact hfs
    iexact Hs

/-- The wait for a copy inside the device. -/
theorem waitL_spec (c : Dev nD) {sp sp' : Space} {s s' : Shape} {e e' : EltTy} (src : Memref sig .tc sp s' e') (dst : Memref sig .tc sp' s e)
    (sm : DmaSem sig) {hsrc : src.view.WordExact} {hdst : dst.view.WordExact} {n : ℕ} (hn : dst.view.dmaCredit = n) (D : sProp 𝕄) (k : ℕ) :
    iprop(Invs m K κ ∗ Flight EC (c : Thread nD τ) (.dma sm) 0 n D ∗ Ow c k)
      ⊢ WP (F := F) c (Prog.lift (.waitDma2 sm src dst hsrc hdst)) (fun _ => iprop(D ∗ semVal ((c : Thread nD τ), .dma sm) 0 ∗ Ow c k)) := by
  unfold Prog.lift Ow
  iintro ⟨#HI, Hf, %W, HO⟩
  ihave #Hlev := (Invs_lev m K κ) $$ HI
  iapply (wp_waitLocalO EC 𝒱₀ (c : Thread nD τ) none 0 hn) $$ [Hf HO]
  · isplitl [Hf]; · iexact Hf
    isplitl [HO]; · iexact HO
    iapply (mayWait c _ 0 k (Nat.zero_le _) (by decide)); iexact Hlev
  iintro ⟨HD, Hv, HO⟩
  iapply WP_ret
  isplitl [HD]; · iexact HD
  isplitl [Hv]; · iexact Hv
  iexists _; iexact HO

/-! ## The operands in vector memory -/

/-- The device's `w`, rounded. -/
def wconv (c : Dev nD) : FVec F S4096x1024 .bf16 := truncf (s := S4096x1024) .bf16 (m ((c : Thread nD τ).loc main_arg1)) bitsLt_bf16_f32

def Wv (c : Dev nD) : sProp 𝕄 := owns (c : Thread nD τ) wvM fullShare (wconv m c)

theorem loadW_spec (c : Dev nD) : (Wv m c : sProp 𝕄) ⊢ WP c loadW (fun v => iprop(⌜v = wconv m c⌝ ∗ Wv m c)) := by
  unfold loadW Prog.lift Wv owns
  iintro ⟨%f, %hf, H⟩
  iapply (wp_load 𝒱₀ (c : Thread nD τ) none Set.univ (m := wvM) (View.setOn_subset_set _ _)) $$ H
  iintro H
  iapply WP_ret
  isplitr
  · ipureintro
    exact (View.readAt_full _ _ _).trans hf
  · iexists f
    isplitr; · ipureintro; exact hf
    iexact H

abbrev xR (k : Fin 4) : Rect S512x4096 := Rect.unit (s := S512x4096) ![128 * k.val, 0] S128x4096.size (xrow_inb k)

theorem xr_owns (c : Dev nD) (k : Fin 4) (qs : PosShare TreeShare) (Y : Vec F S128x4096 .bf16) :
    (owns (c : Thread nD τ) (xrM k) qs Y : sProp 𝕄)
      = iprop(∃ f : Buf (Elt F) ((xvM.access (xR k)).loc (c : Thread nD τ)), ⌜(xvM.access (xR k)).read (Elt F) f = Y⌝ ∗ ptsV c (xvM.access (xR k)) qs f) := rfl

theorem loadX_spec (c : Dev nD) (k : Fin 4) (qs : PosShare TreeShare) (Y : Vec F S128x4096 .bf16) :
    (owns (c : Thread nD τ) (xrM k) qs Y : sProp 𝕄) ⊢ WP c (loadX k) (fun v => iprop(⌜v = Y⌝ ∗ owns (c : Thread nD τ) (xrM k) qs Y)) := by
  unfold loadX
  rw [xr_owns]
  iintro ⟨%f, %hf, H⟩
  iapply (WP_last (load_spec c xvM (xR k) qs f)) $$ H
  iintro %v ⟨%hv, H⟩
  isplitr
  · ipureintro; exact hv.trans hf
  · iexists f
    isplitr; · ipureintro; exact hf
    iexact H

/-! ## The blocks a staging slot sends -/

/-- The `n`-th block staging slot `b` sends: its direction, its rows, its step. -/
def blk (b : Fin 2) : ℕ → Bool × Fin 2 × Fin 8
  | 0 => (false, b, 0)
  | 1 => (true, b, 0)
  | n + 2 => (decide (b = 1), ⟨n % 2, Nat.mod_lt _ (by decide)⟩, ⟨(n + 2) / 2 % 8, Nat.mod_lt _ (by decide)⟩)

theorem blk_emit (d : Bool) (q : Fin 2) {h : ℕ} (h1 : 1 ≤ h) : blk (sb d) (2 * h + q.val) = (d, q, ⟨h % 8, Nat.mod_lt _ (by decide)⟩) := by
  obtain ⟨h, rfl⟩ : ∃ k, h = k + 1 := ⟨h - 1, by omega⟩
  rw [show 2 * (h + 1) + q.val = (2 * h + q.val) + 2 by omega]
  have := q.2
  refine Prod.ext ?_ (Prod.ext (Fin.ext ?_) (Fin.ext ?_))
  · cases d <;> rfl
  · show (2 * h + q.val) % 2 = q.val; omega
  · show (2 * h + q.val + 2) / 2 % 8 = (h + 1) % 8; omega

def oB (c : Dev nD) (b : Fin 2) (n : ℕ) : Memref sig .tc .hbm S128x1024 .f32 := oeM c (blk b n).1 (blk b n).2.1 (blk b n).2.2
def vB (c : Dev nD) (b : Fin 2) (n : ℕ) : FVec F S128x1024 .f32 := outR (X m c (blk b n).1 (blk b n).2.1 (blk b n).2.2.val) (wconv m c)

def doneB (c : Dev nD) (b : Fin 2) (n : ℕ) : sProp 𝕄 := owns (c : Thread nD τ) (oB c b n) fullShare (vB m c b n)
def todoB (c : Dev nD) (b : Fin 2) (n : ℕ) : sProp 𝕄 := anyOf c (oB c b n)

abbrev NO : ℕ := (obM 0 0).view.dmaCredit
theorem NO_pos : 0 < NO := View.dmaCredit_pos _ (by decide)
theorem oe_credit (c : Dev nD) (d : Bool) (q : Fin 2) (h : Fin 8) : (oeM c d q h).view.dmaCredit = NO := rfl

/-- Staging slot `b` before its first block. -/
def St0 (c : Dev nD) (b : Fin 2) : sProp 𝕄 :=
  iprop(semVal ((c : Thread nD τ), .dma (stS b)) 0 ∗ anyOf c (sbM b) ∗ rng 0 16 (todoB c b))
/-- Staging slot `b` with its block `n` on the way. -/
def St (c : Dev nD) (b : Fin 2) (n : ℕ) : sProp 𝕄 :=
  iprop(Flight EC (c : Thread nD τ) (.dma (stS b)) 0 NO iprop(doneB m c b n ∗ anyOf c (sbM b)) ∗ rng 0 n (doneB m c b) ∗ rng (n + 1) 16 (todoB c b))

theorem sb_read (b : Fin 2) (f : stM.view.ty.Contents (Elt F)) (a : FVec F S128x1024 .f32) :
    (sbM b).view.read (Elt F) ((stM.access (Rect.unit (s := S2x128x1024) ![b.val, 0, 0] S1x128x1024.size (st_inb b))).write (Elt F) f
      (shapeCast S1x128x1024 a shapeCasts_S128x1024_S1x128x1024) Finset.univ) = a := by
  have hc : S1x128x1024.ShapeCasts S128x1024 := by decide
  refine Eq.trans (b := shapeCast S128x1024 (stM.view.readAt (Elt F) (Rect.unit (s := S2x128x1024) ![b.val, 0, 0] S1x128x1024.size (st_inb b)).toLoadRect
    ((stM.access (Rect.unit (s := S2x128x1024) ![b.val, 0, 0] S1x128x1024.size (st_inb b))).write (Elt F) f
      (shapeCast S1x128x1024 a shapeCasts_S128x1024_S1x128x1024) Finset.univ)) hc) rfl ?_
  rw [View.readAt_rect]
  refine Eq.trans (congrArg (fun v => shapeCast S128x1024 v hc) (View.read_write_univ _ _)) ?_
  funext i
  obtain ⟨x, y, rfl⟩ : ∃ (x : Fin 128) (y : Fin 1024), i = ValueIdx.ix2 x y := ⟨i 0, i 1, ValueIdx.eq_ix2 i⟩
  rw [ValueIdx.shapeCast_1ab_ab_apply, ValueIdx.shapeCast_ab_1ab_apply]

abbrev sR (b : Fin 2) : Rect S2x128x1024 := Rect.unit (s := S2x128x1024) ![b.val, 0, 0] S1x128x1024.size (st_inb b)
theorem sb_set (b : Fin 2) : (sbM b).view.set = (stM.access (sR b)).set := View.set_reshape _ _
theorem sb_pts (c : Dev nD) (b : Fin 2) (f : Buf (Elt F) ((sbM b).view.loc (c : Thread nD τ))) :
    (iprop((sbM b).view.loc (c : Thread nD τ) ↦[(sbM b).view.set]{fullShare} f) : sProp 𝕄) = ptsV c (stM.access (sR b)) fullShare f := by
  unfold ptsV; rw [sb_set b]; rfl

theorem sb_pts' (c : Dev nD) (b : Fin 2) (f : Buf (Elt F) ((stM.access (sR b)).loc (c : Thread nD τ))) :
    (ptsV c (stM.access (sR b)) fullShare f : sProp 𝕄) = iprop((sbM b).view.loc (c : Thread nD τ) ↦[(sbM b).view.set]{fullShare} f) := (sb_pts c b f).symm

theorem sb_store (c : Dev nD) (b : Fin 2) (a : FVec F S128x1024 .f32) (p : PT F PUnit) (Q : PUnit → sProp 𝕄) (R : sProp 𝕄)
    (hp : iprop(R ∗ owns (c : Thread nD τ) (sbM b) fullShare a) ⊢ WP c p Q) :
    iprop(R ∗ anyOf c (sbM b)) ⊢ WP (F := F) c (do
        let _ ← Prog.lift (.load stM (sR b).toLoadRect (View.loadsAt_vmem h_S1x128x1024))
        Prog.lift (.store stM (sR b) (shapeCast S1x128x1024 a shapeCasts_S128x1024_S1x128x1024) Finset.univ (View.stores_vmem_bits_univ h_S1x128x1024 rfl) (.inl rfl))
        p) Q := by
  unfold anyOf owns
  iintro ⟨HR, ⟨%Y, %f, -, Hb⟩⟩
  ihave Hb := (Entails.of_eq (sb_pts c b f)) $$ Hb
  iapply (WP_step (load_spec c stM (sR b) fullShare f)) $$ Hb
  iintro %v ⟨-, Hb⟩
  iapply (WP_step (store_spec c stM (sR b) (shapeCast S1x128x1024 a shapeCasts_S128x1024_S1x128x1024) f)) $$ Hb
  iintro %_ Hb
  ihave Hb := (Entails.of_eq (sb_pts' c b _)) $$ Hb
  iapply hp
  isplitl [HR]; · iexact HR
  unfold owns
  iexists _
  isplitr; · ipureintro; exact sb_read b f a
  iexact Hb

theorem putO_spec (c : Dev nD) (b : Fin 2) (a : FVec F S128x4096 .bf16) (w : FVec F S4096x1024 .bf16) (o : Memref sig .tc .hbm S128x1024 .f32)
    (hn : o.view.dmaCredit = NO) :
    iprop((semVal ((c : Thread nD τ), .dma (stS b)) 0 ∗ anyOf c o) ∗ anyOf c (sbM b))
      ⊢ WP (F := F) c (putO b (outV a w) o)
          (fun _ => Flight EC (c : Thread nD τ) (.dma (stS b)) 0 NO iprop(owns (c : Thread nD τ) o fullShare (outR a w) ∗ anyOf c (sbM b))) := by
  refine sb_store c b (outR a w) _ _ _ ?_
  iintro ⟨⟨Hv, Ho⟩, Hb⟩
  iapply (WP_last (copy_spec c (sbM b) o (stS b) (hsrc := (View.wordExact_bits rfl).reshape _ _) (hdst := View.wordExact_bits rfl) (hsem := ⟨Or.inl rfl, trivial⟩) fullShare (outR a w) hn NO_pos)) $$ [Hv Hb Ho]
  · isplitl [Hb]; · iexact Hb
    isplitl [Ho] <;> iassumption
  iintro %_ Hf
  iapply (Flight_mono EC (c : Thread nD τ) ?_) $$ Hf
  iintro ⟨Ho, Hb⟩
  isplitl [Ho]; · iexact Ho
  iapply (anyOf_intro c (sbM b)); iexact Hb

/-- The first block of a staging slot. -/
theorem put0_spec (c : Dev nD) (b : Fin 2) :
    iprop(St0 c b) ⊢ WP (F := F) c (putO b (outV (X m c false b 0) (wconv m c)) (oeM c false b 0)) (fun _ => St m c b 0) := by
  unfold St0 St
  rw [rng_pop (by decide) (todoB c b)]
  iintro ⟨Hv, Hb, Ho, Hos⟩
  iapply (WP_last (putO_spec c b (X m c false b 0) (wconv m c) (oeM c false b 0) rfl)) $$ [Hv Hb Ho]
  · isplitr [Hb]; · isplitl [Hv]; · iexact Hv
                    unfold todoB; iexact Ho
    iexact Hb
  iintro %_ Hf
  isplitl [Hf]; · unfold doneB; iexact Hf
  isplitr; · rw [rng_none (le_refl 0)]; iempintro
  iexact Hos

/-- A later block: the one before is waited for, then this one is sent. -/
theorem put1_spec (c : Dev nD) (b : Fin 2) {n : ℕ} (hn : n + 1 < 16) (k : ℕ) (o₁ o : Memref sig .tc .hbm S128x1024 .f32)
    (h₁ : o₁.view.dmaCredit = NO) (ho : o = oB c b (n + 1)) (a : FVec F S128x4096 .bf16) (ha : outR a (wconv m c) = vB m c b (n + 1)) :
    iprop(Invs m K κ ∗ St m c b n ∗ Ow c k)
      ⊢ WP (F := F) c (do waitO b o₁; putO b (outV a (wconv m c)) o) (fun _ => iprop(St m c b (n + 1) ∗ Ow c k)) := by
  subst ho
  unfold St
  rw [rng_pop hn (todoB c b)]
  iintro ⟨#HI, ⟨Hf, Hd, Ho, Hos⟩, HO⟩
  unfold waitO
  iapply (WP_step (waitL_spec m K κ c (sbM b) o₁ (stS b) (hsrc := (View.wordExact_bits rfl).reshape _ _) (hdst := View.wordExact_bits rfl) h₁ _ k)) $$ [Hf HO]
  · isplitr; · iexact HI
    isplitl [Hf] <;> iassumption
  iintro %_ ⟨⟨Hd1, Hb⟩, Hv, HO⟩
  iapply (WP_last (putO_spec c b a (wconv m c) (oB c b (n + 1)) rfl)) $$ [Hv Hb Ho]
  · isplitr [Hb]; · isplitl [Hv]; · iexact Hv
                    unfold todoB; iexact Ho
    iexact Hb
  iintro %_ Hf
  isplitr [HO]
  · isplitl [Hf]; · unfold doneB; rw [← ha]; iexact Hf
    isplitl [Hd1 Hd]
    · rw [rng_push (Nat.zero_le n)]
      isplitl [Hd1] <;> iassumption
    iexact Hos
  · iexact HO

end Cert.KernelIdeal.Ring2
end
-- ==== Proof.Half.lean ====
/-
  One half of a step: both arrivals, both hops on, the output rows of both.
-/
module

public import proofs.«01_k».proof.Proof.Out

@[expose] public section

set_option maxRecDepth 16384

noncomputable section

namespace Cert.KernelIdeal.Ring2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Option Slot → ℕ) (κ : ℕ)

/-! ## Output rows -/

/-- The share of a row block of the device's own that stays with it. -/
def XO (c : Dev nD) (d : Bool) (q : Fin 2) : sProp 𝕄 := owns (c : Thread nD τ) (xrM (kOf d q)) fullShare.right (X m c d q 0)

theorem ownF_spec (c : Dev nD) (q : Fin 2) :
    iprop(XO m c false q ∗ Wv m c ∗ St0 c q) ⊢ WP (F := F) c (own c false q) (fun _ => iprop(XO m c false q ∗ Wv m c ∗ St m c q 0)) := by
  unfold own XO
  iintro ⟨HX, HW, HS⟩
  iapply (WP_step (loadX_spec c (kOf false q) fullShare.right (X m c false q 0))) $$ HX
  iintro %v ⟨%hv, HX⟩
  subst hv
  iapply (WP_step (loadW_spec m c)) $$ HW
  iintro %w ⟨%hw, HW⟩
  subst hw
  iapply (WP_last (put0_spec m c q)) $$ HS
  iintro %_ HS
  isplitl [HX]; · iexact HX
  isplitl [HW] <;> iassumption

theorem ownT_spec (c : Dev nD) (q : Fin 2) (k : ℕ) :
    iprop(Invs m K κ ∗ XO m c true q ∗ Wv m c ∗ St m c q 0 ∗ Ow c k)
      ⊢ WP (F := F) c (own c true q) (fun _ => iprop(XO m c true q ∗ Wv m c ∗ St m c q 1 ∗ Ow c k)) := by
  unfold own XO
  iintro ⟨#HI, HX, HW, HS, HO⟩
  iapply (WP_step (loadX_spec c (kOf true q) fullShare.right (X m c true q 0))) $$ HX
  iintro %v ⟨%hv, HX⟩
  subst hv
  iapply (WP_step (loadW_spec m c)) $$ HW
  iintro %w ⟨%hw, HW⟩
  subst hw
  iapply (WP_last (put1_spec m K κ c q (n := 0) (by decide) k (oeM c false q 0) (oeM c true q 0) rfl rfl (X m c true q 0) rfl)) $$ [HS HO]
  · isplitr; · iexact HI
    isplitl [HS] <;> iassumption
  iintro %_ ⟨HS, HO⟩
  isplitl [HX]; · iexact HX
  isplitl [HW]; · iexact HW
  isplitl [HS] <;> iassumption

theorem prevO_credit (c : Dev nD) (d : Bool) (q : Fin 2) (h : ℕ) : (prevO c d q h).view.dmaCredit = NO := by
  match q, h, d with
  | 1, _, _ => rfl
  | 0, _ + 2, _ => rfl
  | 0, 0, false => rfl
  | 0, 0, true => rfl
  | 0, 1, false => rfl
  | 0, 1, true => rfl

theorem emit_spec (c : Dev nD) (d : Bool) (q : Fin 2) {h n : ℕ} (h1 : 1 ≤ h) (h7 : h ≤ 7) (hn : n + 1 = 2 * h + q.val) (k : ℕ)
    {v : Vec F S1x256x4096 .bf16} (hv : extr q v = X m c d q h) :
    iprop(Invs m K κ ∗ Wv m c ∗ St m c (sb d) n ∗ Ow c k)
      ⊢ WP (F := F) c (emit c d q h v) (fun _ => iprop(Wv m c ∗ St m c (sb d) (n + 1) ∗ Ow c k)) := by
  have hb := blk_emit d q h1
  rw [← hn] at hb
  have hq := q.2
  unfold emit
  iintro ⟨#HI, HW, HS, HO⟩
  iapply (WP_step (loadW_spec m c)) $$ HW
  iintro %w ⟨%hw, HW⟩
  subst hw
  iapply (WP_last (put1_spec m K κ c (sb d) (n := n) (by omega) k (prevO c d q h) (oeM c d q ⟨h % 8, Nat.mod_lt _ (by decide)⟩)
    (prevO_credit c d q h) (by unfold oB; rw [hb]) (extr q v) (by unfold vB; rw [hb, hv]; show _ = outR (X m c d q (h % 8)) (wconv m c); rw [Nat.mod_eq_of_lt (by omega)]))) $$ [HS HO]
  · isplitr; · iexact HI
    isplitl [HS] <;> iassumption
  iintro %_ ⟨HS, HO⟩
  isplitl [HW]; · iexact HW
  isplitl [HS] <;> iassumption

/-- What a device holds at all times to make output rows. -/
def Out (c : Dev nD) (n : ℕ) : sProp 𝕄 := iprop(TokA c ∗ Wv m c ∗ St m c 0 n ∗ St m c 1 n)

theorem emits_spec (c : Dev nD) (q : Fin 2) {h n : ℕ} (h1 : 1 ≤ h) (h7 : h ≤ 7) (hn : n + 1 = 2 * h + q.val) (k : ℕ) (qs : PosShare TreeShare) :
    iprop(Invs m K κ ∗ Out m c n ∗ owns (c : Thread nD τ) (slotM false (sl h) q) qs (X m c false q h)
        ∗ owns (c : Thread nD τ) (slotM true (sl h) q) qs (X m c true q h) ∗ Ow c k)
      ⊢ WP (F := F) c (emits c q h) (fun _ => iprop(Out m c (n + 1) ∗ owns (c : Thread nD τ) (slotM false (sl h) q) qs (X m c false q h)
        ∗ owns (c : Thread nD τ) (slotM true (sl h) q) qs (X m c true q h) ∗ Ow c k)) := by
  unfold emits Out
  iintro ⟨#HI, ⟨HA, HW, H0, H1⟩, Hf, Ht, HO⟩
  iapply (WP_step (loadSlot_spec m K κ c false (sl h) q qs (X m c false q h))) $$ [HA Hf]
  · isplitr; · iexact HI
    isplitl [HA] <;> iassumption
  iintro %vf ⟨%hvf, HA, Hf⟩
  iapply (WP_step (loadSlot_spec m K κ c true (sl h) q qs (X m c true q h))) $$ [HA Ht]
  · isplitr; · iexact HI
    isplitl [HA] <;> iassumption
  iintro %vt ⟨%hvt, HA, Ht⟩
  iapply (WP_step (emit_spec m K κ c false q h1 h7 hn k hvf)) $$ [HW H0 HO]
  · isplitr; · iexact HI
    isplitl [HW]; · iexact HW
    isplitl [H0]; · iexact H0
    iexact HO
  iintro %_ ⟨HW, H0, HO⟩
  iapply (WP_last (emit_spec m K κ c true q h1 h7 hn k hvt)) $$ [HW H1 HO]
  · isplitr; · iexact HI
    isplitl [HW]; · iexact HW
    isplitl [H1]; · iexact H1
    iexact HO
  iintro %_ ⟨HW, H1, HO⟩
  isplitl [HA HW H0 H1]
  · isplitl [HA]; · iexact HA
    isplitl [HW]; · iexact HW
    isplitl [H0]; · iexact H0
    iexact H1
  isplitl [Hf]; · iexact Hf
  isplitl [Ht] <;> iassumption

/-! ## A half -/

theorem arrive_spec (c : Dev nD) (q : Fin 2) {g k : ℕ} (hg : g < 7) (hk : g + 1 ≤ k / 4) :
    iprop(Invs m K κ ∗ Lane m c false q g ∗ Lane m c true q g ∗ Ow c k)
      ⊢ WP (F := F) c (arrive q g) (fun _ => iprop((Mid m c false q g ∗ Sw c false q g) ∗ (Mid m c true q g ∗ Sw c true q g) ∗ Ow c k)) := by
  have h2 : iprop((Invs m K κ ∗ Lane m c true q g) ∗ Mid m c false q g ∗ Sw c false q g ∗ Ow c k)
      ⊢ WP (F := F) c (do waitS true q g; waitR true q g; Prog.ret PUnit.unit)
        (fun _ => iprop((Mid m c false q g ∗ Sw c false q g) ∗ (Mid m c true q g ∗ Sw c true q g) ∗ Ow c k)) := by
    iintro ⟨⟨#HI, HL⟩, HM, HS, HO⟩
    iapply (arrive1_spec m K κ c true q hg hk (R := iprop(Mid m c false q g ∗ Sw c false q g)) ?_)
    rotate_left
    · isplitr; · iexact HI
      isplitl [HM HS]; · isplitl [HM] <;> iassumption
      isplitl [HL] <;> iassumption
    iintro ⟨HA, HM, HS, HO⟩
    iapply WP_ret
    isplitl [HA]; · iexact HA
    isplitr [HO]; · isplitl [HM] <;> iassumption
    iexact HO
  have h1 := arrive1_spec m K κ c false q hg hk h2
  refine BIBase.Entails.trans ?_ h1
  iintro ⟨#HI, Hf, Ht, HO⟩
  isplitr; · iexact HI
  isplitl [Ht]; · isplitr; · iexact HI
                  iexact Ht
  isplitl [Hf] <;> iassumption

theorem pass_spec (c : Dev nD) (q : Fin 2) {g : ℕ} (hg : g < 6) :
    iprop(Invs m K κ ∗ (Mid m c false q g ∗ Sw c false q g) ∗ (Mid m c true q g ∗ Sw c true q g) ∗ Ow c (4 * (g + 1) + 2 * q.val))
      ⊢ WP (F := F) c (pass c q (g + 1)) (fun _ => iprop(Lane m c false q (g + 1) ∗ Lane m c true q (g + 1) ∗ Ow c (4 * (g + 1) + 2 * q.val + 2))) := by
  have e0 : hopIx false q (g + 1) = 4 * (g + 1) + 2 * q.val := by unfold hopIx; simp
  have e1 : hopIx true q (g + 1) = 4 * (g + 1) + 2 * q.val + 1 := by unfold hopIx; simp; omega
  have h2 : iprop((Invs m K κ ∗ Mid m c true q g ∗ carry (tgt true c) true q (g + 2) ∗ (KP c true q (g + 1) ∗ TG c false q (g + 1)) ∗ (KP c false q (g + 1) ∗ TG c true q (g + 1)))
        ∗ (Lane0 m c false q (g + 1) ∗ Rem m c false q (g + 1)) ∗ Ow c (hopIx false q (g + 1) + 1))
      ⊢ WP (F := F) c (do hop c true q (g + 1); Prog.ret PUnit.unit)
        (fun _ => iprop(Lane m c false q (g + 1) ∗ Lane m c true q (g + 1) ∗ Ow c (4 * (g + 1) + 2 * q.val + 2))) := by
    rw [e0, ← e1]
    iintro ⟨⟨#HI, HM, Hc, ⟨HKt, HTf⟩, ⟨HKf, HTt⟩⟩, ⟨HL, HR⟩, HO⟩
    iapply (pass1_spec m K κ c true q hg (R := iprop((Lane0 m c false q (g + 1) ∗ Rem m c false q (g + 1)) ∗ (KP c true q (g + 1) ∗ TG c false q (g + 1)) ∗ (KP c false q (g + 1) ∗ TG c true q (g + 1)))) ?_)
    rotate_left
    · isplitr; · iexact HI
      isplitr [HM Hc HO]
      · isplitl [HL HR]; · isplitl [HL] <;> iassumption
        isplitl [HKt HTf]; · isplitl [HKt] <;> iassumption
        isplitl [HKf] <;> iassumption
      isplitl [HM]; · iexact HM
      isplitl [Hc] <;> iassumption
    iintro ⟨⟨⟨HLf, HRf⟩, ⟨HKt, HTf⟩, ⟨HKf, HTt⟩⟩, ⟨HLt, HRt⟩, HO⟩
    iapply WP_ret
    unfold Lane
    rw [e1]
    isplitl [HLf HRf HKf HTf]
    · isplitl [HLf]; · iexact HLf
      isplitl [HRf]; · iexact HRf
      isplitl [HKf] <;> iassumption
    isplitr [HO]
    · isplitl [HLt]; · iexact HLt
      isplitl [HRt]; · iexact HRt
      isplitl [HKt] <;> iassumption
    iexact HO
  have h1 := pass1_spec m K κ c false q hg h2
  have sf := sw_use (F := F) c false q (g := g) (by omega)
  have st := sw_use (F := F) c true q (g := g) (by omega)
  simp only [Bool.not_false, Bool.not_true] at sf st
  refine BIBase.Entails.trans ?_ h1
  rw [e0]
  iintro ⟨#HI, ⟨Mf, Sf⟩, ⟨Mt, St⟩, HO⟩
  ihave St := sf $$ St
  ihave Sf := st $$ Sf
  icases St with ⟨Cf, Kt, Tf⟩
  icases Sf with ⟨Ct, Kf, Tt⟩
  isplitr; · iexact HI
  isplitr [Mf Cf HO]
  · isplitr; · iexact HI
    isplitl [Mt]; · iexact Mt
    isplitl [Ct]; · iexact Ct
    isplitl [Kt Tf]; · isplitl [Kt] <;> iassumption
    isplitl [Kf] <;> iassumption
  isplitl [Mf]; · iexact Mf
  isplitl [Cf] <;> iassumption

/-- Before the half `q` of step `g + 1`. -/
def Half (c : Dev nD) (q : Fin 2) (g : ℕ) : sProp 𝕄 := iprop(Lane m c false q g ∗ Lane m c true q g)

theorem half_spec (c : Dev nD) (q : Fin 2) {g : ℕ} (hg : g < 6) :
    iprop(Invs m K κ ∗ Half m c q g ∗ Out m c (2 * g + q.val + 1) ∗ Ow c (4 * (g + 1) + 2 * q.val))
      ⊢ WP (F := F) c (half c q g) (fun _ => iprop(Half m c q (g + 1) ∗ Out m c (2 * g + q.val + 2) ∗ Ow c (4 * (g + 1) + 2 * q.val + 2))) := by
  unfold half Half
  iintro ⟨#HI, ⟨Hf, Ht⟩, HU, HO⟩
  iapply (WP_step (arrive_spec m K κ c q (by omega) (show g + 1 ≤ (4 * (g + 1) + 2 * q.val) / 4 by omega))) $$ [Hf Ht HO]
  · isplitr; · iexact HI
    isplitl [Hf]; · iexact Hf
    isplitl [Ht] <;> iassumption
  iintro %_ ⟨Hf, Ht, HO⟩
  iapply (WP_step (pass_spec m K κ c q hg)) $$ [Hf Ht HO]
  · isplitr; · iexact HI
    isplitl [Hf]; · iexact Hf
    isplitl [Ht] <;> iassumption
  iintro %_ ⟨Hf, Ht, HO⟩
  unfold Lane Rem
  icases Hf with ⟨Lf, ⟨Rf, Bf⟩, Kf⟩
  icases Ht with ⟨Lt, ⟨Rt, Bt⟩, Kt⟩
  iapply (WP_last (emits_spec m K κ c q (h := g + 1) (n := 2 * g + q.val + 1) (by omega) (by omega) (by omega) _ fullShare.right.right)) $$ [HU Rf Rt HO]
  · isplitr; · iexact HI
    isplitl [HU]; · iexact HU
    isplitl [Rf]; · iexact Rf
    isplitl [Rt] <;> iassumption
  iintro %_ ⟨HU, Rf, Rt, HO⟩
  isplitr [HU HO]
  · isplitl [Lf Rf Bf Kf]
    · isplitl [Lf]; · iexact Lf
      isplitl [Rf Bf]; · isplitl [Rf] <;> iassumption
      iexact Kf
    · isplitl [Lt]; · iexact Lt
      isplitl [Rt Bt]; · isplitl [Rt] <;> iassumption
      iexact Kt
  isplitl [HU] <;> iassumption

/-- A lane at its end. -/
def Fin1 (c : Dev nD) (d : Bool) (q : Fin 2) : sProp 𝕄 :=
  iprop(rng 8 12 (posA c d q) ∗ rng 7 11 (semS c d q) ∗ srcD m c d q 0
    ∗ slotO c (d, sl 3, q) ∗ slotO c (d, sl 2, q) ∗ slotO c (d, sl 1, q) ∗ slotO c (d, sl 0, q))

theorem fin_of (c : Dev nD) (d : Bool) (q : Fin 2) : iprop(Mid m c d q 6 ∗ Sw c d q 6) ⊢ (Fin1 m c d q : sProp 𝕄) := by
  have hK : (KP c d q 6 : sProp 𝕄) = iprop(slotO c (d, sl 1, q) ∗ slotO c (d, sl 0, q) ∗ emp) := by
    unfold KP
    rw [show (6 : ℕ) = 5 + 1 from rfl, rng_push (by omega), rng_push (by omega), rng_none (by omega)]
    rfl
  unfold Mid Sw Fin1
  rw [hK, show XR m c d q (6 + 1) = srcD m c d q 0 from rfl]
  iintro ⟨⟨Hp, -, -, Hs, Hv, -, -, HX⟩, Ho, -, ⟨H1, H0, -⟩, -⟩
  isplitl [Hp]; · iexact Hp
  isplitl [Hs]; · iexact Hs
  isplitl [HX]; · iexact HX
  isplitl [Hv]
  · unfold slotO; iexists _; iexact Hv
  isplitl [Ho]; · iexact Ho
  isplitl [H1] <;> iassumption

theorem lastHalf_spec (c : Dev nD) (q : Fin 2) :
    iprop(Invs m K κ ∗ Half m c q 6 ∗ Out m c (13 + q.val) ∗ Ow c 28)
      ⊢ WP (F := F) c (lastHalf c q) (fun _ => iprop((Fin1 m c false q ∗ Fin1 m c true q) ∗ Out m c (14 + q.val) ∗ Ow c 28)) := by
  unfold lastHalf Half
  iintro ⟨#HI, ⟨Hf, Ht⟩, HU, HO⟩
  iapply (WP_step (arrive_spec m K κ c q (g := 6) (k := 28) (by omega) (by omega))) $$ [Hf Ht HO]
  · isplitr; · iexact HI
    isplitl [Hf]; · iexact Hf
    isplitl [Ht] <;> iassumption
  iintro %_ ⟨⟨Mf, Sf⟩, ⟨Mt, St⟩, HO⟩
  unfold Mid slotV
  icases Mf with ⟨f1, f2, f3, f4, ⟨Rf, Bf⟩, f5⟩
  icases Mt with ⟨t1, t2, t3, t4, ⟨Rt, Bt⟩, t5⟩
  iapply (WP_last (emits_spec m K κ c q (h := 7) (n := 13 + q.val) (by omega) (by omega) (by omega) _ fullShare.right)) $$ [HU Rf Rt HO]
  · isplitr; · iexact HI
    isplitl [HU]; · iexact HU
    isplitl [Rf]; · iexact Rf
    isplitl [Rt] <;> iassumption
  iintro %_ ⟨HU, Rf, Rt, HO⟩
  isplitr [HU HO]
  · isplitl [f1 f2 f3 f4 Rf Bf f5 Sf]
    · iapply (fin_of m c false q)
      unfold Mid slotV
      isplitr [Sf]
      · isplitl [f1]; · iexact f1
        isplitl [f2]; · iexact f2
        isplitl [f3]; · iexact f3
        isplitl [f4]; · iexact f4
        isplitl [Rf Bf]; · isplitl [Rf] <;> iassumption
        iexact f5
      · iexact Sf
    · iapply (fin_of m c true q)
      unfold Mid slotV
      isplitr [St]
      · isplitl [t1]; · iexact t1
        isplitl [t2]; · iexact t2
        isplitl [t3]; · iexact t3
        isplitl [t4]; · iexact t4
        isplitl [Rt Bt]; · isplitl [Rt] <;> iassumption
        iexact t5
      · iexact St
  isplitl [HU]
  · rw [show 14 + q.val = 13 + q.val + 1 by omega]; iexact HU
  · iexact HO

/-! ## All the steps -/

theorem step_spec (c : Dev nD) {g : ℕ} (hg : g < 6) :
    iprop(Invs m K κ ∗ Half m c 0 g ∗ Half m c 1 g ∗ Out m c (2 * g + 1) ∗ Ow c (4 * (g + 1)))
      ⊢ WP (F := F) c (step c g) (fun _ => iprop(Half m c 0 (g + 1) ∗ Half m c 1 (g + 1) ∗ Out m c (2 * (g + 1) + 1) ∗ Ow c (4 * (g + 1 + 1)))) := by
  unfold step
  iintro ⟨#HI, H0, H1, HU, HO⟩
  iapply (WP_step (half_spec m K κ c 0 hg)) $$ [H0 HU HO]
  · isplitr; · iexact HI
    isplitl [H0]; · iexact H0
    isplitl [HU]; · iexact HU
    iexact HO
  iintro %_ ⟨H0, HU, HO⟩
  iapply (WP_last (half_spec m K κ c 1 hg)) $$ [H1 HU HO]
  · isplitr; · iexact HI
    isplitl [H1]; · iexact H1
    isplitl [HU]; · iexact HU
    iexact HO
  iintro %_ ⟨H1, HU, HO⟩
  isplitl [H0]; · iexact H0
  isplitl [H1]; · iexact H1
  isplitl [HU]; · iexact HU
  iexact HO

end Cert.KernelIdeal.Ring2
end
-- ==== Proof.Parts.lean ====
/-
  Buffers in parts, and back: rows of the operands and of the output, slots of the staging buffers.
-/
module

public import proofs.«01_k».proof.Proof.Half

@[expose] public section

set_option maxRecDepth 16384

noncomputable section

namespace Cert.KernelIdeal.Ring2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Option Slot → ℕ) (κ : ℕ)

/-! ## Rectangles -/

theorem rect_disj {s : Shape} {off size off' size' : Fin s.rank → ℕ} {h : ∀ a, off a + size a ≤ s.size a} {h' : ∀ a, off' a + size' a ≤ s.size a}
    (a : Fin s.rank) (hs : off a + size a ≤ off' a ∨ off' a + size' a ≤ off a) :
    Disjoint (Rect.unit (s := s) off size h).set (Rect.unit (s := s) off' size' h').set := by
  refine Finset.disjoint_left.mpr fun i hi hi' => ?_
  have h1 := Rect.mem_set_unit.mp hi a
  have h2 := Rect.mem_set_unit.mp hi' a
  omega

section Gen
variable {T : Type} [Fintype T] [DecidableEq T] (c : Dev nD) {sp : Space} {s : Shape} {e : EltTy} (M : Memref sig .tc sp s e)
  (r : T → Rect s) (hr : ∀ t a, (r t).stride a = 1) (hd : ∀ t t', t ≠ t' → Disjoint (r t).set (r t').set)
  (hcov : (Finset.univ : Finset T).biUnion (fun t => (r t).set) = Finset.univ)

include hd hcov in
theorem any_split : (anyOf c M : sProp 𝕄) ⊢ bigSep Finset.univ fun t => anyOf c (M.slice (r t) (hr t)) := by
  iintro H
  unfold anyOf
  icases H with ⟨%Y, H⟩
  iapply ((owns_rects (c : Thread nD τ) M fullShare r hr hd hcov Y).trans (bigSep_mono fun t _ => anyOf_intro c (M.slice (r t) (hr t)) _)); iexact H

include hd hcov in
theorem any_join : (bigSep Finset.univ fun t => anyOf c (M.slice (r t) (hr t))) ⊢ (anyOf c M : sProp 𝕄) := by
  refine (bigSep_exists_pi Finset.univ fun t Y => (owns (c : Thread nD τ) (M.slice (r t) (hr t)) fullShare Y : sProp 𝕄)).trans ?_
  iintro ⟨%Z, H⟩
  iapply (anyOf_intro c M (Rect.glue r hcov Z))
  iapply (owns_of_rects (c : Thread nD τ) M fullShare r hr hd hcov (Rect.glue r hcov Z))
  iapply (Entails.of_eq (bigSep_congr fun t _ => congrArg (fun Y => owns (c : Thread nD τ) (M.slice (r t) (hr t)) fullShare Y)
    (funext fun y => (Rect.glue_emb r hcov hd Z t y).symm))); iexact H
end Gen

/-- A memref seen in another shape is owned when it is. -/
theorem any_squeeze (c : Dev nD) {sp : Space} {s s' : Shape} {e : EltTy} (M : Memref sig .tc sp s e) (h : s.Squeezes s') :
    (anyOf c (M.squeeze s' h) : sProp 𝕄) ⊣⊢ anyOf c M := by
  have hs : (M.squeeze s' h).view.set = M.view.set := View.set_reshape _ _
  have hl : (M.squeeze s' h).view.loc (c : Thread nD τ) = M.view.loc (c : Thread nD τ) := rfl
  unfold anyOf owns
  constructor
  · iintro ⟨%Y, %f, -, H⟩
    iexists (M.view.read (Elt F) f), f
    isplitr; · ipureintro; rfl
    rw [hs]; iexact H
  · iintro ⟨%Y, %f, -, H⟩
    iexists ((M.squeeze s' h).view.read (Elt F) f), f
    isplitr; · ipureintro; rfl
    rw [hs]; iexact H

/-! ## The families -/

abbrev cR (k : Fin 4) : Rect S4096x1024 := Rect.unit (s := S4096x1024) ![1024 * k.val, 0] S1024x1024.size (chunk_inb k)
abbrev oR (p : Dev nD × Fin 4) : Rect S4096x1024 := Rect.unit (s := S4096x1024) ![512 * p.1.val + 128 * p.2.val, 0] S128x1024.size (out_inb p.1 p.2)
abbrev wR (b : Fin 2) : Rect S2x1024x1024 := Rect.unit (s := S2x1024x1024) ![b.val, 0, 0] S1x1024x1024.size (ws_inb b)
abbrev bR (p : Fin 4 × Fin 2) : Rect S4x256x4096 := Rect.unit (s := S4x256x4096) ![p.1.val, 128 * p.2.val, 0] S1x128x4096.size (slot_inb p.1 p.2)

theorem cR_disj (k k' : Fin 4) (h : k ≠ k') : Disjoint (cR k).set (cR k').set := by
  refine rect_disj 0 ?_
  have : k.val ≠ k'.val := fun e => h (Fin.ext e)
  show 1024 * k.val + 1024 ≤ 1024 * k'.val ∨ 1024 * k'.val + 1024 ≤ 1024 * k.val
  omega
theorem cR_cov : (Finset.univ : Finset (Fin 4)).biUnion (fun k => (cR k).set) = Finset.univ := by
  refine Finset.eq_univ_iff_forall.mpr fun i => ?_
  have h0 : (i 0).val < 4096 := (i 0).2
  have h1 : (i 1).val < 1024 := (i 1).2
  refine Finset.mem_biUnion.mpr ⟨⟨(i 0).val / 1024, by omega⟩, Finset.mem_univ _, Rect.mem_set_unit.mpr (Fin.forall_fin_two.mpr ⟨?_, ?_⟩)⟩
  · show 1024 * ((i 0).val / 1024) ≤ (i 0).val ∧ (i 0).val < 1024 * ((i 0).val / 1024) + 1024; omega
  · show 0 ≤ (i 1).val ∧ (i 1).val < 0 + 1024; omega

theorem xR_disj (k k' : Fin 4) (h : k ≠ k') : Disjoint (xR k).set (xR k').set := by
  refine rect_disj 0 ?_
  have : k.val ≠ k'.val := fun e => h (Fin.ext e)
  show 128 * k.val + 128 ≤ 128 * k'.val ∨ 128 * k'.val + 128 ≤ 128 * k.val
  omega
theorem xR_cov : (Finset.univ : Finset (Fin 4)).biUnion (fun k => (xR k).set) = Finset.univ := by
  refine Finset.eq_univ_iff_forall.mpr fun i => ?_
  have h0 : (i 0).val < 512 := (i 0).2
  have h1 : (i 1).val < 4096 := (i 1).2
  refine Finset.mem_biUnion.mpr ⟨⟨(i 0).val / 128, by omega⟩, Finset.mem_univ _, Rect.mem_set_unit.mpr (Fin.forall_fin_two.mpr ⟨?_, ?_⟩)⟩
  · show 128 * ((i 0).val / 128) ≤ (i 0).val ∧ (i 0).val < 128 * ((i 0).val / 128) + 128; omega
  · show 0 ≤ (i 1).val ∧ (i 1).val < 0 + 4096; omega

theorem oR_disj (p p' : Dev nD × Fin 4) (h : p ≠ p') : Disjoint (oR p).set (oR p').set := by
  refine rect_disj 0 ?_
  obtain ⟨o, k⟩ := p; obtain ⟨o', k'⟩ := p'
  have : ¬ (o.val = o'.val ∧ k.val = k'.val) := fun e => h (Prod.ext (Fin.ext e.1) (Fin.ext e.2))
  have := k.2; have := k'.2
  show 512 * o.val + 128 * k.val + 128 ≤ 512 * o'.val + 128 * k'.val ∨ 512 * o'.val + 128 * k'.val + 128 ≤ 512 * o.val + 128 * k.val
  omega
theorem oR_cov : (Finset.univ : Finset (Dev nD × Fin 4)).biUnion (fun p => (oR p).set) = Finset.univ := by
  refine Finset.eq_univ_iff_forall.mpr fun i => ?_
  have h0 : (i 0).val < 4096 := (i 0).2
  have h1 : (i 1).val < 1024 := (i 1).2
  refine Finset.mem_biUnion.mpr ⟨(⟨(i 0).val / 512, by show _ < 8; omega⟩, ⟨(i 0).val % 512 / 128, by omega⟩), Finset.mem_univ _, Rect.mem_set_unit.mpr (Fin.forall_fin_two.mpr ⟨?_, ?_⟩)⟩
  · show 512 * ((i 0).val / 512) + 128 * ((i 0).val % 512 / 128) ≤ (i 0).val ∧ (i 0).val < 512 * ((i 0).val / 512) + 128 * ((i 0).val % 512 / 128) + 128; omega
  · show 0 ≤ (i 1).val ∧ (i 1).val < 0 + 1024; omega

theorem fin3 {P : Fin 3 → Prop} (h0 : P 0) (h1 : P 1) (h2 : P 2) : ∀ a, P a := fun a => match a with
  | ⟨0, _⟩ => h0
  | ⟨1, _⟩ => h1
  | ⟨2, _⟩ => h2

theorem sR_disj (b b' : Fin 2) (h : b ≠ b') : Disjoint (sR b).set (sR b').set := by
  refine rect_disj 0 ?_
  have : b.val ≠ b'.val := fun e => h (Fin.ext e)
  show b.val + 1 ≤ b'.val ∨ b'.val + 1 ≤ b.val
  omega
theorem sR_cov : (Finset.univ : Finset (Fin 2)).biUnion (fun b => (sR b).set) = Finset.univ := by
  refine Finset.eq_univ_iff_forall.mpr fun i => ?_
  have h0 : (i 0).val < 2 := (i 0).2
  have h1 : (i 1).val < 128 := (i 1).2
  have h2 : (i 2).val < 1024 := (i 2).2
  refine Finset.mem_biUnion.mpr ⟨⟨(i 0).val, h0⟩, Finset.mem_univ _, Rect.mem_set_unit.mpr (fin3 ?_ ?_ ?_)⟩
  · show (i 0).val ≤ (i 0).val ∧ (i 0).val < (i 0).val + 1; omega
  · show 0 ≤ (i 1).val ∧ (i 1).val < 0 + 128; omega
  · show 0 ≤ (i 2).val ∧ (i 2).val < 0 + 1024; omega

theorem wR_disj (b b' : Fin 2) (h : b ≠ b') : Disjoint (wR b).set (wR b').set := by
  refine rect_disj 0 ?_
  have : b.val ≠ b'.val := fun e => h (Fin.ext e)
  show b.val + 1 ≤ b'.val ∨ b'.val + 1 ≤ b.val
  omega
theorem wR_cov : (Finset.univ : Finset (Fin 2)).biUnion (fun b => (wR b).set) = Finset.univ := by
  refine Finset.eq_univ_iff_forall.mpr fun i => ?_
  have h0 : (i 0).val < 2 := (i 0).2
  have h1 : (i 1).val < 1024 := (i 1).2
  have h2 : (i 2).val < 1024 := (i 2).2
  refine Finset.mem_biUnion.mpr ⟨⟨(i 0).val, h0⟩, Finset.mem_univ _, Rect.mem_set_unit.mpr (fin3 ?_ ?_ ?_)⟩
  · show (i 0).val ≤ (i 0).val ∧ (i 0).val < (i 0).val + 1; omega
  · show 0 ≤ (i 1).val ∧ (i 1).val < 0 + 1024; omega
  · show 0 ≤ (i 2).val ∧ (i 2).val < 0 + 1024; omega

theorem bR_disj (p p' : Fin 4 × Fin 2) (h : p ≠ p') : Disjoint (bR p).set (bR p').set := by
  obtain ⟨s, q⟩ := p; obtain ⟨s', q'⟩ := p'
  by_cases hs : s.val = s'.val
  · refine rect_disj 1 ?_
    have : q.val ≠ q'.val := fun e => h (Prod.ext (Fin.ext hs) (Fin.ext e))
    show 128 * q.val + 128 ≤ 128 * q'.val ∨ 128 * q'.val + 128 ≤ 128 * q.val
    omega
  · refine rect_disj 0 ?_
    show s.val + 1 ≤ s'.val ∨ s'.val + 1 ≤ s.val
    omega
theorem bR_cov : (Finset.univ : Finset (Fin 4 × Fin 2)).biUnion (fun p => (bR p).set) = Finset.univ := by
  refine Finset.eq_univ_iff_forall.mpr fun i => ?_
  have h0 : (i 0).val < 4 := (i 0).2
  have h1 : (i 1).val < 256 := (i 1).2
  have h2 : (i 2).val < 4096 := (i 2).2
  refine Finset.mem_biUnion.mpr ⟨(⟨(i 0).val, h0⟩, ⟨(i 1).val / 128, by omega⟩), Finset.mem_univ _, Rect.mem_set_unit.mpr (fin3 ?_ ?_ ?_)⟩
  · show (i 0).val ≤ (i 0).val ∧ (i 0).val < (i 0).val + 1; omega
  · show 128 * ((i 1).val / 128) ≤ (i 1).val ∧ (i 1).val < 128 * ((i 1).val / 128) + 128; omega
  · show 0 ≤ (i 2).val ∧ (i 2).val < 0 + 4096; omega

/-! ## The buffers -/

theorem big2 (Φ : Fin 2 → sProp 𝕄) : bigSep Finset.univ Φ = iprop(Φ 0 ∗ Φ 1) := bigSep_univ_eq_bigSepL [0, 1] (by decide) (by decide) Φ
theorem big4 (Φ : Fin 4 → sProp 𝕄) : bigSep Finset.univ Φ = iprop(Φ 0 ∗ Φ 1 ∗ Φ 2 ∗ Φ 3) := bigSep_univ_eq_bigSepL [0, 1, 2, 3] (by decide) (by decide) Φ

theorem st_parts (c : Dev nD) : (anyOf c stM : sProp 𝕄) ⊣⊢ iprop(anyOf c (sbM 0) ∗ anyOf c (sbM 1)) := by
  have e : (bigSep Finset.univ fun b => anyOf c (sbM b) : sProp 𝕄) = iprop(anyOf c (sbM 0) ∗ anyOf c (sbM 1)) := big2 _
  rw [← e]
  exact ⟨(any_split c stM sR (fun _ _ => rfl) sR_disj sR_cov).trans (bigSep_mono fun b _ => (any_squeeze c _ squeezes_S1x128x1024_S128x1024).2),
    (bigSep_mono fun b _ => (any_squeeze c _ squeezes_S1x128x1024_S128x1024).1).trans (any_join c stM sR (fun _ _ => rfl) sR_disj sR_cov)⟩
theorem ws_parts (c : Dev nD) : (anyOf c wsM : sProp 𝕄) ⊣⊢ iprop(anyOf c (wbM 0) ∗ anyOf c (wbM 1)) := by
  have e : (bigSep Finset.univ fun b => anyOf c (wbM b) : sProp 𝕄) = iprop(anyOf c (wbM 0) ∗ anyOf c (wbM 1)) := big2 _
  rw [← e]
  exact ⟨(any_split c wsM wR (fun _ _ => rfl) wR_disj wR_cov).trans (bigSep_mono fun b _ => (any_squeeze c _ squeezes_S1x1024x1024_S1024x1024).2),
    (bigSep_mono fun b _ => (any_squeeze c _ squeezes_S1x1024x1024_S1024x1024).1).trans (any_join c wsM wR (fun _ _ => rfl) wR_disj wR_cov)⟩
theorem buf_parts (c : Dev nD) (d : Bool) : (anyOf c (bufM d) : sProp 𝕄) ⊣⊢ bigSep Finset.univ fun p : Fin 4 × Fin 2 => anyOf c (slotM d p.1 p.2) := by
  exact ⟨(any_split c (bufM d) bR (fun _ _ => rfl) bR_disj bR_cov).trans (bigSep_mono fun p _ => (any_squeeze c _ squeezes_S1x128x4096_S128x4096).2),
    (bigSep_mono fun p _ => (any_squeeze c _ squeezes_S1x128x4096_S128x4096).1).trans (any_join c (bufM d) bR (fun _ _ => rfl) bR_disj bR_cov)⟩

/-- A chunk of `w` in vector memory. -/
def wkM (k : Fin 4) : Memref sig .tc .vmem S1024x1024 .bf16 := wvM.slice (cR k) (fun _ => rfl)
theorem wv_parts (c : Dev nD) : (anyOf c wvM : sProp 𝕄) ⊢ bigSep Finset.univ fun k => anyOf c (wkM k) :=
  any_split c wvM cR (fun _ _ => rfl) cR_disj cR_cov
/-- Its contents, converted. -/
def wkV (c : Dev nD) (k : Fin 4) : FVec F S1024x1024 .bf16 := fun j => wconv m c ((cR k).emb j)
theorem wv_rejoin (c : Dev nD) (Y : Vec F S4096x1024 .bf16) : (bigSep Finset.univ fun k => owns (c : Thread nD τ) (wkM k) fullShare (fun j => Y ((cR k).emb j)) : sProp 𝕄)
    ⊢ owns (c : Thread nD τ) wvM fullShare Y :=
  owns_of_rects (c : Thread nD τ) wvM fullShare cR (fun _ _ => rfl) cR_disj cR_cov Y
theorem wv_done (c : Dev nD) : (bigSep Finset.univ fun k => owns (c : Thread nD τ) (wkM k) fullShare (wkV m c k) : sProp 𝕄) ⊢ Wv m c := by
  have h := wv_rejoin c (wconv m c)
  unfold Wv
  exact h

/-- A chunk of the argument `w`. -/
def ckV (c : Dev nD) (k : Fin 4) : Vec F S1024x1024 .f32 := fun j => m ((c : Thread nD τ).loc main_arg1) ((cR k).emb j)
theorem w_parts (c : Dev nD) : (owns (c : Thread nD τ) wM fullShare (m ((c : Thread nD τ).loc main_arg1)) : sProp 𝕄)
    ⊣⊢ bigSep Finset.univ fun k => owns (c : Thread nD τ) (ckM k) fullShare (ckV m c k) :=
  ⟨owns_rects (c : Thread nD τ) wM fullShare cR (fun _ _ => rfl) cR_disj cR_cov _,
    owns_of_rects (c : Thread nD τ) wM fullShare cR (fun _ _ => rfl) cR_disj cR_cov _⟩

theorem xv_parts (c : Dev nD) : (owns (c : Thread nD τ) xvM fullShare (xdev m c) : sProp 𝕄)
    ⊢ bigSep Finset.univ fun k => owns (c : Thread nD τ) (xrM k) fullShare ((xrM k).view.read (Elt F) (xdev m c)) :=
  owns_rects (c : Thread nD τ) xvM fullShare xR (fun _ _ => rfl) xR_disj xR_cov _
theorem xv_any (c : Dev nD) : (bigSep Finset.univ fun k => anyOf c (xrM k) : sProp 𝕄) ⊢ anyOf c xvM :=
  any_join c xvM xR (fun _ _ => rfl) xR_disj xR_cov

/-! ## The output -/

/-- The rows `k` of device `o`'s part of `x`. -/
def xrow (o : Dev nD) (k : Fin 4) : Vec F S128x4096 .bf16 := (xrM k).view.read (Elt F) (xdev m o)

/-- The output of device `c`. -/
def outF (c : Dev nD) : Vec F S4096x1024 .f32 := fun i =>
  outR (xrow m ⟨(i 0).val / 512, Nat.div_lt_of_lt_mul (i 0).2⟩ ⟨(i 0).val % 512 / 128, by omega⟩) (wconv m c)
    (ValueIdx.ix2 ⟨(i 0).val % 128, Nat.mod_lt _ (by decide)⟩ (i 1))

theorem outF_emb (c : Dev nD) (p : Dev nD × Fin 4) : (fun j => outF m c ((oR p).emb j)) = outR (xrow m p.1 p.2) (wconv m c) := by
  funext j
  obtain ⟨o, k⟩ := p
  have h0 : (j 0).val < 128 := (j 0).2
  have hk := k.2
  have e0 : ((oR (o, k)).emb j 0).val = 512 * o.val + 128 * k.val + 1 * (j 0).val := rfl
  have e1 : ((oR (o, k)).emb j 1).val = 0 + 1 * (j 1).val := rfl
  unfold outF
  congr 1
  · congr 2
    · show ((oR (o, k)).emb j 0).val / 512 = o.val; rw [e0]; omega
    · show ((oR (o, k)).emb j 0).val % 512 / 128 = k.val; rw [e0]; omega
  · rw [ValueIdx.eq_ix2 j]
    congr 1
    · apply Fin.ext; show ((oR (o, k)).emb j 0).val % 128 = (j 0).val; rw [e0]; omega
    · apply Fin.ext; show ((oR (o, k)).emb j 1).val = (j 1).val; rw [e1]; omega

/-- Which rows a staging slot's `n`-th block is. -/
def blkO (c : Dev nD) (p : Fin 2 × Fin 16) : Dev nD × Fin 4 :=
  (org (blk p.1 p.2.val).1 c (blk p.1 p.2.val).2.2.val, kOf (blk p.1 p.2.val).1 (blk p.1 p.2.val).2.1)

theorem blkO_inj (c : Dev nD) : Function.Injective (blkO c) := by
  have h : ∀ c : Dev nD, ∀ p p' : Fin 2 × Fin 16, blkO c p = blkO c p' → p = p' := by decide +kernel
  exact fun p p' e => h c p p' e
theorem blkO_bij (c : Dev nD) : Function.Bijective (blkO c) :=
  (Fintype.bijective_iff_injective_and_card _).mpr ⟨blkO_inj c, by decide⟩
def blkE (c : Dev nD) : Fin 2 × Fin 16 ≃ Dev nD × Fin 4 := Equiv.ofBijective (blkO c) (blkO_bij c)

theorem oB_eq (c : Dev nD) (p : Fin 2 × Fin 16) : oB c p.1 p.2.val = obM (blkO c p).1 (blkO c p).2 := oeM_eq _ _ _ _
theorem vB_eq (c : Dev nD) (p : Fin 2 × Fin 16) : vB m c p.1 p.2.val = outR (xrow m (blkO c p).1 (blkO c p).2) (wconv m c) := rfl

theorem rng16 (A : ℕ → sProp 𝕄) : rng 0 16 A = bigSep Finset.univ fun n : Fin 16 => A n.val := by
  unfold rng
  rw [show Finset.Ico 0 16 = (Finset.univ : Finset (Fin 16)).map Fin.valEmbedding by decide, bigSep_map]
  rfl

theorem out_parts (c : Dev nD) : (anyOf c oM : sProp 𝕄) ⊢ iprop(rng 0 16 (todoB c 0) ∗ rng 0 16 (todoB c 1)) := by
  have e : (iprop(rng 0 16 (todoB c 0) ∗ rng 0 16 (todoB c 1)) : sProp 𝕄) = bigSep Finset.univ fun p : Dev nD × Fin 4 => anyOf c (obM p.1 p.2) := by
    rw [bigSep_univ_equiv (blkE c), bigSep_univ_prod, big2, rng16, rng16]
    refine congrArg₂ _ ?_ ?_ <;> exact bigSep_congr fun n _ => congrArg (anyOf c) (oB_eq c (_, n))
  rw [e]
  exact any_split c oM oR (fun _ _ => rfl) oR_disj oR_cov

theorem out_done (c : Dev nD) : iprop(rng 0 16 (doneB m c 0) ∗ rng 0 16 (doneB m c 1)) ⊢ (owns (c : Thread nD τ) oM fullShare (outF m c) : sProp 𝕄) := by
  have e : (iprop(rng 0 16 (doneB m c 0) ∗ rng 0 16 (doneB m c 1)) : sProp 𝕄)
      = bigSep Finset.univ fun p : Dev nD × Fin 4 => owns (c : Thread nD τ) (obM p.1 p.2) fullShare (outR (xrow m p.1 p.2) (wconv m c)) := by
    rw [bigSep_univ_equiv (blkE c), bigSep_univ_prod, big2, rng16, rng16]
    refine congrArg₂ _ ?_ ?_ <;> exact bigSep_congr fun n _ => by unfold doneB; rw [vB_eq m c (_, n), oB_eq c (_, n)]; rfl
  rw [e]
  refine (Entails.of_eq (bigSep_congr fun p _ => by rw [← outF_emb m c p]; rfl)).trans (owns_of_rects (c : Thread nD τ) oM fullShare oR (fun _ _ => rfl) oR_disj oR_cov (outF m c))

end Cert.KernelIdeal.Ring2
end
-- ==== Proof.Open.lean ====
/-
  Before the steps: the fetches, the meeting with the neighbours, the first hops, the conversion of w, the own rows.
-/
module

public import proofs.«01_k».proof.Proof.Parts

@[expose] public section

set_option maxRecDepth 16384

noncomputable section

namespace Cert.KernelIdeal.Ring2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Option Slot → ℕ) (κ : ℕ)

/-! ## The chunks of `w` -/

abbrev NW : ℕ := (wbM 0).view.dmaCredit
theorem NW_pos : 0 < NW := View.dmaCredit_pos _ (by decide)
theorem wb_credit (b : Fin 2) : (wbM b).view.dmaCredit = NW := rfl

/-- Chunk `k` of `w` is on its way to staging slot `b`. -/
def Wfl (c : Dev nD) (k : Fin 4) (b : Fin 2) (i : Fin 3) : sProp 𝕄 :=
  Flight EC (c : Thread nD τ) (.dma (ldS i)) 0 NW iprop(owns (c : Thread nD τ) (wbM b) fullShare (ckV m c k) ∗ owns (c : Thread nD τ) (ckM k) fullShare (ckV m c k))

def ck (c : Dev nD) (k : Fin 4) : sProp 𝕄 := owns (c : Thread nD τ) (ckM k) fullShare (ckV m c k)
def ldV (c : Dev nD) (i : Fin 3) : sProp 𝕄 := semVal ((c : Thread nD τ), .dma (ldS i)) 0

theorem fetchW_spec (c : Dev nD) (k : Fin 4) (b : Fin 2) (i : Fin 3) :
    iprop(ck m c k ∗ anyOf c (wbM b) ∗ ldV c i) ⊢ WP (F := F) c (fetchW k b i) (fun _ => Wfl m c k b i) := by
  unfold fetchW ck ldV Wfl
  exact copy_spec c (ckM k) (wbM b) (ldS i) (hsrc := View.wordExact_bits rfl) (hdst := (View.wordExact_bits rfl).reshape _ _) (hsem := ⟨Or.inl rfl, trivial⟩)
    fullShare (ckV m c k) (wb_credit b) NW_pos

theorem wb_set (b : Fin 2) : (wbM b).view.set = (wsM.access (wR b)).set := View.set_reshape _ _
theorem wb_pts (c : Dev nD) (b : Fin 2) (f : Buf (Elt F) ((wbM b).view.loc (c : Thread nD τ))) :
    (iprop((wbM b).view.loc (c : Thread nD τ) ↦[(wbM b).view.set]{fullShare} f) : sProp 𝕄) = ptsV c (wsM.access (wR b)) fullShare f := by
  unfold ptsV; rw [wb_set b]; rfl
theorem wb_pts' (c : Dev nD) (b : Fin 2) (f : Buf (Elt F) ((wsM.access (wR b)).loc (c : Thread nD τ))) :
    (ptsV c (wsM.access (wR b)) fullShare f : sProp 𝕄) = iprop((wbM b).view.loc (c : Thread nD τ) ↦[(wbM b).view.set]{fullShare} f) := (wb_pts c b f).symm
theorem wb_owns (c : Dev nD) (b : Fin 2) (Y : Vec F S1024x1024 .f32) :
    (owns (c : Thread nD τ) (wbM b) fullShare Y : sProp 𝕄)
      = iprop(∃ f : Buf (Elt F) ((wbM b).view.loc (c : Thread nD τ)), ⌜(wbM b).view.read (Elt F) f = Y⌝ ∗ ptsV c (wsM.access (wR b)) fullShare f) := by
  simp only [← wb_pts]; rfl
theorem wk_owns (c : Dev nD) (k : Fin 4) (Y : Vec F S1024x1024 .bf16) :
    (owns (c : Thread nD τ) (wkM k) fullShare Y : sProp 𝕄)
      = iprop(∃ f, ⌜(wvM.access (cR k)).read (Elt F) f = Y⌝ ∗ ptsV c (wvM.access (cR k)) fullShare f) := rfl

theorem cvt_read (b : Fin 2) (f : wsM.view.ty.Contents (Elt F)) :
    cvt ((wsM.access (wR b)).read (Elt F) f) = truncf .bf16 ((wbM b).view.read (Elt F) f) bitsLt_bf16_f32 := by
  unfold cvt
  rw [shapeCast_self]
  rfl

theorem convW_spec (c : Dev nD) (k : Fin 4) (b : Fin 2) (i : Fin 3) (n : ℕ) :
    iprop(Invs m K κ ∗ Wfl m c k b i ∗ anyOf c (wkM k) ∗ Ow c n) ⊢ WP (F := F) c (convW k b i)
      (fun _ => iprop(anyOf c (wbM b) ∗ ldV c i ∗ ck m c k ∗ owns (c : Thread nD τ) (wkM k) fullShare (wkV m c k) ∗ Ow c n)) := by
  unfold convW Wfl
  iintro ⟨#HI, Hf, Hk, HO⟩
  iapply (WP_step (waitL_spec m K κ c (ckM k) (wbM b) (ldS i) (hsrc := View.wordExact_bits rfl) (hdst := (View.wordExact_bits rfl).reshape _ _) (wb_credit b) _ n)) $$ [Hf HO]
  · isplitr; · iexact HI
    isplitl [Hf] <;> iassumption
  iintro %_ ⟨⟨Hb, Hc⟩, Hv, HO⟩
  ihave Hb := (Entails.of_eq (wb_owns c b (ckV m c k))) $$ Hb
  icases Hb with ⟨%f, %hf, Hb⟩
  iapply (WP_step (load_spec c wsM (wR b) fullShare f)) $$ Hb
  iintro %v ⟨%hv, Hb⟩
  ihave Hb := (Entails.of_eq (wb_pts' c b f)) $$ Hb
  unfold anyOf
  icases Hk with ⟨%Y, Hk⟩
  ihave Hk := (Entails.of_eq (wk_owns c k Y)) $$ Hk
  icases Hk with ⟨%g, -, Hk⟩
  iapply (WP_step (load_spec c wvM (cR k) fullShare g)) $$ Hk
  iintro %v' ⟨-, Hk⟩
  iapply (WP_last (store_spec c wvM (cR k) (cvt v) g)) $$ Hk
  iintro %_ Hk
  isplitl [Hb]
  · iexists _; iapply (owns_intro (c : Thread nD τ) (wbM b)); iexact Hb
  isplitl [Hv]; · unfold ldV; iexact Hv
  isplitl [Hc]; · unfold ck; iexact Hc
  isplitl [Hk]
  · iapply (Entails.of_eq (wk_owns c k (wkV m c k)).symm)
    iexists ((wvM.access (cR k)).write (Elt F) g (cvt v) Finset.univ)
    isplitr
    · ipureintro
      have hval : cvt v = wkV m c k := ((congrArg cvt hv).trans (cvt_read b f)).trans (congrArg (fun Z : Vec F S1024x1024 .f32 => truncf (F := F) .bf16 Z bitsLt_bf16_f32) hf)
      exact (View.read_write_univ g (cvt v)).trans hval
    · iexact Hk
  · iexact HO

theorem conv_spec (c : Dev nD) (n : ℕ) :
    iprop(Invs m K κ ∗ Wfl m c 0 0 1 ∗ Wfl m c 1 1 2 ∗ ck m c 2 ∗ ck m c 3
        ∗ (anyOf c (wkM 0) ∗ anyOf c (wkM 1) ∗ anyOf c (wkM 2) ∗ anyOf c (wkM 3)) ∗ Ow c n)
      ⊢ WP (F := F) c conv (fun _ => iprop(owns (c : Thread nD τ) wM fullShare (m ((c : Thread nD τ).loc main_arg1)) ∗ Wv m c ∗ anyOf c wsM ∗ ldV c 1 ∗ ldV c 2 ∗ Ow c n)) := by
  unfold conv
  iintro ⟨#HI, F0, F1, C2, C3, ⟨K0, K1, K2, K3⟩, HO⟩
  iapply (WP_step (convW_spec m K κ c 0 0 1 n)) $$ [F0 K0 HO]
  · isplitr; · iexact HI
    isplitl [F0]; · iexact F0
    isplitl [K0] <;> iassumption
  iintro %_ ⟨B0, V1, C0, K0, HO⟩
  iapply (WP_step (fetchW_spec m c 2 0 1)) $$ [C2 B0 V1]
  · isplitl [C2]; · iexact C2
    isplitl [B0] <;> iassumption
  iintro %_ F2
  iapply (WP_step (convW_spec m K κ c 1 1 2 n)) $$ [F1 K1 HO]
  · isplitr; · iexact HI
    isplitl [F1]; · iexact F1
    isplitl [K1] <;> iassumption
  iintro %_ ⟨B1, V2, C1, K1, HO⟩
  iapply (WP_step (fetchW_spec m c 3 1 2)) $$ [C3 B1 V2]
  · isplitl [C3]; · iexact C3
    isplitl [B1] <;> iassumption
  iintro %_ F3
  iapply (WP_step (convW_spec m K κ c 2 0 1 n)) $$ [F2 K2 HO]
  · isplitr; · iexact HI
    isplitl [F2]; · iexact F2
    isplitl [K2] <;> iassumption
  iintro %_ ⟨B0, V1, C2, K2, HO⟩
  iapply (WP_last (convW_spec m K κ c 3 1 2 n)) $$ [F3 K3 HO]
  · isplitr; · iexact HI
    isplitl [F3]; · iexact F3
    isplitl [K3] <;> iassumption
  iintro %_ ⟨B1, V2, C3, K3, HO⟩
  isplitl [C0 C1 C2 C3]
  · iapply (w_parts m c).2
    rw [big4]
    unfold ck
    isplitl [C0]; · iexact C0
    isplitl [C1]; · iexact C1
    isplitl [C2] <;> iassumption
  isplitl [K0 K1 K2 K3]
  · iapply (wv_done m c)
    rw [big4]
    isplitl [K0]; · iexact K0
    isplitl [K1]; · iexact K1
    isplitl [K2] <;> iassumption
  isplitl [B0 B1]
  · iapply (ws_parts c).2
    isplitl [B0] <;> iassumption
  isplitl [V1]; · iexact V1
  isplitl [V2] <;> iassumption

/-! ## The own rows -/

theorem owns4_spec (c : Dev nD) (k : ℕ) :
    iprop(Invs m K κ ∗ (XO m c false 0 ∗ XO m c false 1 ∗ XO m c true 0 ∗ XO m c true 1) ∗ Wv m c ∗ St0 c 0 ∗ St0 c 1 ∗ Ow c k)
      ⊢ WP (F := F) c (owns4 c) (fun _ => iprop((XO m c false 0 ∗ XO m c false 1 ∗ XO m c true 0 ∗ XO m c true 1) ∗ Wv m c ∗ St m c 0 1 ∗ St m c 1 1 ∗ Ow c k)) := by
  unfold owns4
  iintro ⟨#HI, ⟨X0, X1, X2, X3⟩, HW, S0, S1, HO⟩
  iapply (WP_step (ownF_spec m c 0)) $$ [X0 HW S0]
  · isplitl [X0]; · iexact X0
    isplitl [HW] <;> iassumption
  iintro %_ ⟨X0, HW, S0⟩
  iapply (WP_step (ownF_spec m c 1)) $$ [X1 HW S1]
  · isplitl [X1]; · iexact X1
    isplitl [HW] <;> iassumption
  iintro %_ ⟨X1, HW, S1⟩
  iapply (WP_step (ownT_spec m K κ c 0 k)) $$ [X2 HW S0 HO]
  · isplitr; · iexact HI
    isplitl [X2]; · iexact X2
    isplitl [HW]; · iexact HW
    isplitl [S0] <;> iassumption
  iintro %_ ⟨X2, HW, S0, HO⟩
  iapply (WP_last (ownT_spec m K κ c 1 k)) $$ [X3 HW S1 HO]
  · isplitr; · iexact HI
    isplitl [X3]; · iexact X3
    isplitl [HW]; · iexact HW
    isplitl [S1] <;> iassumption
  iintro %_ ⟨X3, HW, S1, HO⟩
  isplitl [X0 X1 X2 X3]
  · isplitl [X0]; · iexact X0
    isplitl [X1]; · iexact X1
    isplitl [X2] <;> iassumption
  isplitl [HW]; · iexact HW
  isplitl [S0]; · iexact S0
  isplitl [S1] <;> iassumption

/-! ## The first hops -/

/-- What a lane has before its first hop. -/
def Pre (c : Dev nD) (d : Bool) (q : Fin 2) : sProp 𝕄 :=
  iprop(rng 1 5 (posA c d q) ∗ rng 1 8 (credA c d q) ∗ rng 1 8 (dutT c d q) ∗ rng 0 4 (semS c d q)
    ∗ slotO c (d, sl 0, q) ∗ slotO c (d, sl 3, q) ∗ openA c d q 3 ∗ openA c d q 4)

def Tgs (c : Dev nD) (d : Bool) (q : Fin 2) : sProp 𝕄 := iprop(tgtRes c d q 0 ∗ tgtRes c d q 1)

theorem hop0_spec (c : Dev nD) (d : Bool) (q : Fin 2) :
    iprop(Invs m K κ ∗ srcD m c d q 0 ∗ (rng 1 5 (posA c d q) ∗ rng 1 8 (credA c d q) ∗ rng 1 8 (dutT c d q) ∗ rng 0 4 (semS c d q) ∗ slotO c (d, sl 0, q) ∗ openA c d q 4)
        ∗ Tgs c d q ∗ carry (tgt d c) d q 1 ∗ Ow c (hopIx d q 0))
      ⊢ WP (F := F) c (hop c d q 0) (fun _ => iprop(Lane m c d q 0 ∗ Ow c (hopIx d q 0 + 1))) := by
  unfold Tgs
  rw [rng_pop (a := 1) (b := 8) (by omega) (dutT c d q), rng_pop (a := 0) (b := 4) (by omega) (semS c d q)]
  iintro ⟨#HI, HD, ⟨Hp, Hc, ⟨Hd, Hds⟩, ⟨Hs, Hss⟩, Hsl, Ho⟩, ⟨T0, T1⟩, Hcar, HO⟩
  iapply (WP_last (hop_spec m K κ c d q (g := 0) (by omega))) $$ [HD Hs T0 Hd Hcar HO]
  · isplitr; · iexact HI
    isplitl [HD]; · iexact HD
    isplitl [Hs]; · iexact Hs
    isplitl [T0]; · iexact T0
    isplitl [Hd]; · iexact Hd
    isplitl [Hcar] <;> iassumption
  iintro %_ ⟨Hf, HO⟩
  isplitr [HO]
  · unfold Lane Lane0 Rem KP TG XR
    rw [rng_none (a := 4) (b := 0) (by omega), if_pos (by omega)]
    isplitr [Hsl T1]
    · isplitl [Hp]; · iexact Hp
      isplitl [Hc]; · iexact Hc
      isplitl [Hds]; · iexact Hds
      isplitl [Hss]; · iexact Hss
      isplitl [Hf]; · iexact Hf
      isplitl [Ho]; · iexact Ho
      iempintro
    isplitl [Hsl]; · iexact Hsl
    isplitr; · iempintro
    iexact T1
  · iexact HO

theorem pass0_spec (c : Dev nD) (q : Fin 2) :
    iprop(Invs m K κ ∗ (srcD m c false q 0 ∗ srcD m c true q 0) ∗ (Pre c false q ∗ Pre c true q) ∗ (Tgs c false q ∗ Tgs c true q) ∗ Ow c (2 * q.val))
      ⊢ WP (F := F) c (pass c q 0) (fun _ => iprop(Half m c q 0 ∗ Ow c (2 * q.val + 2))) := by
  have e0 : hopIx false q 0 = 2 * q.val := by unfold hopIx; simp
  have e1 : hopIx true q 0 = 2 * q.val + 1 := by unfold hopIx; simp
  have h0 := hop0_spec m K κ c false q
  have h1 := hop0_spec m K κ c true q
  have c0 := carry_intro (F := F) c false q (a := 1) (by omega) (by omega)
  have c1 := carry_intro (F := F) c true q (a := 1) (by omega) (by omega)
  rw [e0] at h0; rw [e1] at h1
  unfold pass Half Pre
  iintro ⟨#HI, ⟨D0, D1⟩, ⟨⟨P0, C0, U0, S0, Z0, T0, #O3, #O4⟩, ⟨P1, C1, U1, S1, Z1, T1, #O3', #O4'⟩⟩, ⟨G0, G1⟩, HO⟩
  iapply (WP_step h0) $$ [D0 P0 C0 U0 S0 Z0 T1 G0 HO]
  · isplitr; · iexact HI
    isplitl [D0]; · iexact D0
    isplitl [P0 C0 U0 S0 Z0]
    · isplitl [P0]; · iexact P0
      isplitl [C0]; · iexact C0
      isplitl [U0]; · iexact U0
      isplitl [S0]; · iexact S0
      isplitl [Z0]; · iexact Z0
      iexact O4
    isplitl [G0]; · iexact G0
    isplitl [T1]
    · iapply c0
      isplitl [T1]; · iexact T1
      iexact O3'
    iexact HO
  iintro %_ ⟨L0, HO⟩
  iapply (WP_last h1) $$ [D1 P1 C1 U1 S1 Z1 T0 G1 HO]
  · isplitr; · iexact HI
    isplitl [D1]; · iexact D1
    isplitl [P1 C1 U1 S1 Z1]
    · isplitl [P1]; · iexact P1
      isplitl [C1]; · iexact C1
      isplitl [U1]; · iexact U1
      isplitl [S1]; · iexact S1
      isplitl [Z1]; · iexact Z1
      iexact O4'
    isplitl [G1]; · iexact G1
    isplitl [T0]
    · iapply c1
      isplitl [T0]; · iexact T0
      iexact O3
    iexact HO
  iintro %_ ⟨L1, HO⟩
  isplitl [L0 L1]
  · isplitl [L0] <;> iassumption
  iexact HO

/-! ## The meeting with the neighbours -/

theorem dev1_eq : ∀ c : Dev nD, (⟨k0_dev1 c, k0_dev1_lt c⟩ : Dev nD) = tgt true c := by decide +kernel
theorem dev2_eq : ∀ c : Dev nD, (⟨k0_dev2 c, k0_dev2_lt c⟩ : Dev nD) = tgt false c := by decide +kernel

/-- The barrier's own resources. -/
def Bar (c : Dev nD) : sProp 𝕄 :=
  iprop((dutyTok ER (barCell (tgt true c)) 0 false ∗ reached ER (barCell (tgt true c)) 0) ∗ (dutyTok ER (barCell (tgt false c)) 0 true ∗ reached ER (barCell (tgt false c)) 0)
    ∗ cred (tallyAt (barCell c) 0 2) ∗ atPos ER (barCell c) 0 ∅ 0)
def Owes0 (c : Dev nD) : sProp 𝕄 := iprop(∃ W, owes (c : Thread nD τ) (O₀ c) W)

theorem barrier_spec (c : Dev nD) :
    iprop(Invs m K κ ∗ Bar c ∗ barPay (tgt true c) false ∗ barPay (tgt false c) true ∗ Owes0 c)
      ⊢ WP (F := F) c (barrier c) (fun _ => iprop((barPay c false ∗ barPay c true) ∗ atPos ER (barCell c) 1 ∅ 0 ∗ Ow c 0)) := by
  unfold barrier semSignalWord semWaitWord Bar Owes0 Ow
  rw [dev1_eq, dev2_eq]
  iintro ⟨#HI, ⟨⟨Ht, #Hr⟩, ⟨Ht', #Hr'⟩, Hc, Hp⟩, P, P', %W, HO⟩
  ihave #Hlev := (Invs_lev m K κ) $$ HI
  ihave #I1 := (Invs_cell m K κ (tgt true c, none)) $$ HI
  ihave #I2 := (Invs_cell m K κ (tgt false c, none)) $$ HI
  ihave #I3 := (Invs_cell m K κ (c, none)) $$ HI
  iapply (Rounds.wp_signal 𝒱₀ ER (Rd m) (c : Thread nD τ) none (dst := (tgt true c : Thread nD τ)) (κ := K (tgt true c, none))
      (d := false) (by rw [show ((tgt true c : Thread nD τ), SemLoc.reg barrier0) = barCell (tgt true c) from rfl, duties_bar]; exact Finset.mem_univ _)
      ((amount_bar m (tgt true c) 0 false).trans (by decide)) 0 (Orem c 0 + tallyAt (barCell (tgt false c)) 0 1) rfl) $$ [HO Ht P]
  · isplitr; · iexact I1
    isplitl [HO]; · iexact HO
    isplitl [Ht]; · iexact Ht
    isplitl [P]; · iapply (Entails.of_eq (payload_bar m (tgt true c) false).symm); iexact P
    iexact Hr
  iintro HO
  iapply (Rounds.wp_signal 𝒱₀ ER (Rd m) (c : Thread nD τ) none (dst := (tgt false c : Thread nD τ)) (κ := K (tgt false c, none))
      (d := true) (by rw [show ((tgt false c : Thread nD τ), SemLoc.reg barrier0) = barCell (tgt false c) from rfl, duties_bar]; exact Finset.mem_univ _)
      ((amount_bar m (tgt false c) 0 true).trans (by decide)) 0 (Orem c 0) rfl) $$ [HO Ht' P']
  · isplitr; · iexact I2
    isplitl [HO]; · iexact HO
    isplitl [Ht']; · iexact Ht'
    isplitl [P']; · iapply (Entails.of_eq (payload_bar m (tgt false c) true).symm); iexact P'
    iexact Hr'
  iintro HO
  iapply (Rounds.wp_wait_rest_token 𝒱₀ ER (Rd m) (c : Thread nD τ) none (κ := K (c, none))
      (wpE_semWait_eq 𝒱₀ (c : Thread nD τ) none Set.univ) (Set.mem_univ _) 0 (O := Orem c 0) (W := W) (R := 0) (m := 0) (T := ∅)
      (by rw [show ((c : Thread nD τ), SemLoc.reg barrier0) = barCell c from rfl, expect_bar]; decide)) $$ [Hc HO Hp]
  · isplitr; · iexact I3
    isplitl [Hc]; · iexact Hc
    isplitl [HO]; · iexact HO
    isplitr; · iapply (mayWait c _ 0 0 (Nat.zero_le _) (by decide)); iexact Hlev
    iexact Hp
  iintro ⟨HO, Hp, -, Hpay⟩
  ihave Hpay := (Entails.of_eq (rest_bar m c)) $$ Hpay
  iapply WP_ret
  isplitl [Hpay]; · iexact Hpay
  isplitl [Hp]; · iexact Hp
  iexists _; iexact HO

/-- What a device gives its neighbour of the other direction at the barrier. -/
theorem barPay_intro (c : Dev nD) (e : Bool) :
    iprop((slotO c (!e, sl 1, 0) ∗ slotO c (!e, sl 2, 0)) ∗ (slotO c (!e, sl 1, 1) ∗ slotO c (!e, sl 2, 1))
        ∗ openA c (!e) 0 1 ∗ openA c (!e) 0 2 ∗ openA c (!e) 1 1 ∗ openA c (!e) 1 2)
      ⊢ (barPay (tgt e c) (!e) : sProp 𝕄) := by
  unfold barPay tgtRes openA
  rw [tgt_tgt]
  iintro ⟨⟨A, B⟩, ⟨C, D⟩, O1, O2, O3, O4⟩
  isplitl [A B O1 O2]
  · isplitl [A O1]
    · isplitl [A] <;> iassumption
    · isplitl [B] <;> iassumption
  · isplitl [C O3]
    · isplitl [C] <;> iassumption
    · isplitl [D] <;> iassumption

end Cert.KernelIdeal.Ring2
end
-- ==== Proof.Core.lean ====
/-
  A device from its first copy to its last wait.
-/
module

public import proofs.«01_k».proof.Proof.Open

@[expose] public section

set_option maxRecDepth 16384

noncomputable section

namespace Cert.KernelIdeal.Ring2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Option Slot → ℕ) (κ : ℕ)

/-! ## The four lanes -/

def All4 (A : Bool → Fin 2 → sProp 𝕄) : sProp 𝕄 := iprop((A false 0 ∗ A true 0) ∗ (A false 1 ∗ A true 1))

theorem All4_sep (A B : Bool → Fin 2 → sProp 𝕄) : (All4 (fun d q => iprop(A d q ∗ B d q)) : sProp 𝕄) ⊢ iprop(All4 A ∗ All4 B) := by
  unfold All4
  iintro ⟨⟨⟨a, a'⟩, ⟨b, b'⟩⟩, ⟨⟨e, e'⟩, ⟨f, f'⟩⟩⟩
  isplitl [a b e f]
  · isplitl [a b] <;> [skip; skip]
    · isplitl [a] <;> iassumption
    · isplitl [e] <;> iassumption
  · isplitl [a' b'] <;> [skip; skip]
    · isplitl [a'] <;> iassumption
    · isplitl [e'] <;> iassumption
theorem All4_join (A B : Bool → Fin 2 → sProp 𝕄) : iprop(All4 A ∗ All4 B) ⊢ (All4 (fun d q => iprop(A d q ∗ B d q)) : sProp 𝕄) := by
  unfold All4
  iintro ⟨⟨⟨a, b⟩, ⟨e, f⟩⟩, ⟨⟨a', b'⟩, ⟨e', f'⟩⟩⟩
  isplitl [a a' b b']
  · isplitl [a a']
    · isplitl [a] <;> iassumption
    · isplitl [b] <;> iassumption
  · isplitl [e e']
    · isplitl [e] <;> iassumption
    · isplitl [f] <;> iassumption
theorem All4_mono {A B : Bool → Fin 2 → sProp 𝕄} (h : ∀ d q, A d q ⊢ B d q) : All4 A ⊢ (All4 B : sProp 𝕄) := by
  unfold All4
  iintro ⟨⟨a, b⟩, ⟨e, f⟩⟩
  isplitl [a b]
  · isplitl [a]
    · iapply (h false 0); iexact a
    · iapply (h true 0); iexact b
  · isplitl [e]
    · iapply (h false 1); iexact e
    · iapply (h true 1); iexact f

theorem X_zero (c : Dev nD) (d : Bool) (q : Fin 2) : X m c d q 0 = (xrM (kOf d q)).view.read (Elt F) (xdev m c) := by
  unfold X; rw [org_zero]

/-- A device's own rows, lane by lane: a half to send, a half to compute with. -/
def Xin (c : Dev nD) (d : Bool) (q : Fin 2) : sProp 𝕄 := iprop(srcD m c d q 0 ∗ XO m c d q)

theorem xin_intro (c : Dev nD) (d : Bool) (q : Fin 2) :
    (owns (c : Thread nD τ) (xrM (kOf d q)) fullShare ((xrM (kOf d q)).view.read (Elt F) (xdev m c)) : sProp 𝕄) ⊢ Xin m c d q := by
  rw [← X_zero]
  exact (owns_halves (c : Thread nD τ) (xrM (kOf d q)) fullShare _).1
theorem xin_any (c : Dev nD) (d : Bool) (q : Fin 2) : Xin m c d q ⊢ (anyOf c (xrM (kOf d q)) : sProp 𝕄) :=
  ((owns_halves (c : Thread nD τ) (xrM (kOf d q)) fullShare (X m c d q 0)).2).trans (anyOf_intro c _ _)

theorem x_lanes (A : Fin 4 → sProp 𝕄) : (bigSep Finset.univ A : sProp 𝕄) ⊣⊢ All4 (fun d q => A (kOf d q)) := by
  have e : (bigSep Finset.univ A : sProp 𝕄) = iprop(A 0 ∗ A 1 ∗ A 2 ∗ A 3) := big4 A
  have e' : (All4 (fun d q => A (kOf d q)) : sProp 𝕄) = iprop((A 0 ∗ A 2) ∗ (A 1 ∗ A 3)) := by
    show iprop((A (kOf false 0) ∗ A (kOf true 0)) ∗ (A (kOf false 1) ∗ A (kOf true 1))) = _
    rw [show kOf false 0 = 0 by decide, show kOf true 0 = 2 by decide, show kOf false 1 = 1 by decide, show kOf true 1 = 3 by decide]
  rw [e, e']
  constructor
  · iintro ⟨a, b, e, f⟩
    isplitl [a e]
    · isplitl [a]; · iexact a
      iexact e
    · isplitl [b]; · iexact b
      iexact f
  · iintro ⟨⟨a, e⟩, ⟨b, f⟩⟩
    isplitl [a]; · iexact a
    isplitl [b]; · iexact b
    isplitl [e]; · iexact e
    iexact f

theorem x_split (c : Dev nD) : (owns (c : Thread nD τ) xvM fullShare (xdev m c) : sProp 𝕄) ⊢ All4 (Xin m c) :=
  ((xv_parts m c).trans (x_lanes _).1).trans (All4_mono (xin_intro m c))
theorem x_join (c : Dev nD) : All4 (Xin m c) ⊢ (anyOf c xvM : sProp 𝕄) :=
  ((All4_mono (xin_any m c)).trans (x_lanes fun k => anyOf c (xrM k)).2).trans (xv_any c)

/-! ## The device -/

/-- What a lane starts with. -/
def LaneIn (c : Dev nD) (d : Bool) (q : Fin 2) : sProp 𝕄 :=
  iprop(Pre c d q ∗ (slotO c (d, sl 1, q) ∗ slotO c (d, sl 2, q)) ∗ openA c d q 1 ∗ openA c d q 2)
/-- What a lane ends with. -/
def LaneOut (c : Dev nD) (d : Bool) (q : Fin 2) : sProp 𝕄 :=
  iprop(rng 8 12 (posA c d q) ∗ rng 7 11 (semS c d q)
    ∗ slotO c (d, sl 3, q) ∗ slotO c (d, sl 2, q) ∗ slotO c (d, sl 1, q) ∗ slotO c (d, sl 0, q))

def StV (c : Dev nD) (b : Fin 2) : sProp 𝕄 := semVal ((c : Thread nD τ), .dma (stS b)) 0

/-- The buffers and the semaphores of its own that a device has. -/
def Loc1 (c : Dev nD) : sProp 𝕄 :=
  iprop((anyOf c xvM ∗ anyOf c wvM ∗ anyOf c wsM ∗ anyOf c stM) ∗ (ldV c 0 ∗ ldV c 1 ∗ ldV c 2) ∗ (StV c 0 ∗ StV c 1))
def Ins (c : Dev nD) : sProp 𝕄 :=
  iprop(owns (c : Thread nD τ) xM fullShare (xdev m c) ∗ owns (c : Thread nD τ) wM fullShare (m ((c : Thread nD τ).loc main_arg1)))

abbrev NX : ℕ := xvM.view.dmaCredit
theorem NX_pos : 0 < NX := View.dmaCredit_pos _ (by decide)

def Xfl (c : Dev nD) : sProp 𝕄 :=
  Flight EC (c : Thread nD τ) (.dma (ldS 0)) 0 NX iprop(owns (c : Thread nD τ) xvM fullShare (xdev m c) ∗ owns (c : Thread nD τ) xM fullShare (xdev m c))

theorem open1_spec (c : Dev nD) :
    iprop(Invs m K κ ∗ (Ins m c ∗ anyOf c xvM ∗ anyOf c wsM ∗ ldV c 0 ∗ ldV c 1 ∗ ldV c 2) ∗ Bar c ∗ All4 (LaneIn c) ∗ Owes0 c)
      ⊢ WP (F := F) c (open1 c) (fun _ => iprop((Xfl m c ∗ Wfl m c 0 0 1 ∗ Wfl m c 1 1 2 ∗ ck m c 2 ∗ ck m c 3)
          ∗ All4 (Pre c) ∗ All4 (Tgs c) ∗ atPos ER (barCell c) 1 ∅ 0 ∗ Ow c 0)) := by
  have hx := copy_spec c xM xvM (ldS 0) (hsrc := (Memref.isWhole_whole _).wordExact) (hdst := (Memref.isWhole_whole _).wordExact) (hsem := ⟨Or.inl rfl, trivial⟩)
    fullShare (xdev m c) (n := NX) rfl NX_pos
  have b1 := barPay_intro (F := F) c true
  have b0 := barPay_intro (F := F) c false
  unfold open1 Ins
  iintro ⟨#HI, ⟨⟨Hx, Hw⟩, Hxv, Hws, V0, V1, V2⟩, HB, HL, HO⟩
  iapply (WP_step hx) $$ [Hx Hxv V0]
  · isplitl [Hx]; · iexact Hx
    isplitl [Hxv]; · iexact Hxv
    unfold ldV; iexact V0
  iintro %_ Xf
  ihave Hw := (w_parts m c).1 $$ Hw
  ihave Hw := (Entails.of_eq (big4 _)) $$ Hw
  icases Hw with ⟨C0, C1, C2, C3⟩
  ihave Hws := (ws_parts c).1 $$ Hws
  icases Hws with ⟨W0, W1⟩
  iapply (WP_step (fetchW_spec m c 0 0 1)) $$ [C0 W0 V1]
  · isplitl [C0]; · unfold ck; iexact C0
    isplitl [W0] <;> iassumption
  iintro %_ F0
  iapply (WP_step (fetchW_spec m c 1 1 2)) $$ [C1 W1 V2]
  · isplitl [C1]; · unfold ck; iexact C1
    isplitl [W1] <;> iassumption
  iintro %_ F1
  unfold All4 LaneIn
  icases HL with ⟨⟨⟨P0, S0, #A0, #B0⟩, ⟨P1, S1, #A1, #B1⟩⟩, ⟨⟨P2, S2, #A2, #B2⟩, ⟨P3, S3, #A3, #B3⟩⟩⟩
  iapply (WP_last (barrier_spec m K κ c)) $$ [HB HO S0 S1 S2 S3]
  · isplitr; · iexact HI
    isplitl [HB]; · iexact HB
    isplitl [S0 S2]
    · iapply b1
      isplitl [S0]; · iexact S0
      isplitl [S2]; · iexact S2
      isplitr; · iexact A0
      isplitr; · iexact B0
      isplitr; · iexact A2
      iexact B2
    isplitl [S1 S3]
    · iapply b0
      isplitl [S1]; · iexact S1
      isplitl [S3]; · iexact S3
      isplitr; · iexact A1
      isplitr; · iexact B1
      isplitr; · iexact A3
      iexact B3
    iexact HO
  iintro %_ ⟨⟨T0, T1⟩, Hat, HO⟩
  isplitl [Xf F0 F1 C2 C3]
  · isplitl [Xf]; · unfold Xfl; iexact Xf
    isplitl [F0]; · iexact F0
    isplitl [F1]; · iexact F1
    unfold ck
    isplitl [C2] <;> iassumption
  isplitl [P0 P1 P2 P3]
  · isplitl [P0 P1]
    · isplitl [P0] <;> iassumption
    · isplitl [P2] <;> iassumption
  isplitl [T0 T1]
  · unfold barPay Tgs
    icases T0 with ⟨T0, T0'⟩
    icases T1 with ⟨T1, T1'⟩
    isplitl [T0 T1]
    · isplitl [T0] <;> iassumption
    · isplitl [T0'] <;> iassumption
  isplitl [Hat] <;> iassumption

theorem open2_spec (c : Dev nD) :
    iprop(Invs m K κ ∗ Xfl m c ∗ All4 (Pre c) ∗ All4 (Tgs c) ∗ Ow c 0)
      ⊢ WP (F := F) c (open2 c) (fun _ => iprop(owns (c : Thread nD τ) xM fullShare (xdev m c) ∗ ldV c 0 ∗ All4 (XO m c) ∗ (Half m c 0 0 ∗ Half m c 1 0) ∗ Ow c 4)) := by
  have h0 := pass0_spec m K κ c 0
  have h1 := pass0_spec m K κ c 1
  unfold open2 Xfl
  iintro ⟨#HI, Xf, HP, HT, HO⟩
  iapply (WP_step (waitL_spec m K κ c xM xvM (ldS 0) (hsrc := (Memref.isWhole_whole _).wordExact) (hdst := (Memref.isWhole_whole _).wordExact) (n := NX) rfl _ 0)) $$ [Xf HO]
  · isplitr; · iexact HI
    isplitl [Xf] <;> iassumption
  iintro %_ ⟨⟨Hxv, Hx⟩, V0, HO⟩
  ihave Hxv := (x_split m c) $$ Hxv
  unfold Xin
  ihave Hxv := (All4_sep (srcD m c · · 0) (XO m c)) $$ Hxv
  icases Hxv with ⟨HD, HX⟩
  unfold All4
  icases HD with ⟨D0, D1⟩
  icases HP with ⟨P0, P1⟩
  icases HT with ⟨T0, T1⟩
  iapply (WP_step h0) $$ [D0 P0 T0 HO]
  · isplitr; · iexact HI
    isplitl [D0]; · iexact D0
    isplitl [P0]; · iexact P0
    isplitl [T0]; · iexact T0
    iexact HO
  iintro %_ ⟨H0, HO⟩
  iapply (WP_last h1) $$ [D1 P1 T1 HO]
  · isplitr; · iexact HI
    isplitl [D1]; · iexact D1
    isplitl [P1]; · iexact P1
    isplitl [T1]; · iexact T1
    iexact HO
  iintro %_ ⟨H1, HO⟩
  isplitl [Hx]; · iexact Hx
  isplitl [V0]; · unfold ldV; iexact V0
  isplitl [HX]; · iexact HX
  isplitl [H0 H1]; · isplitl [H0] <;> iassumption
  iexact HO

theorem close_spec (c : Dev nD) :
    iprop(Invs m K κ ∗ St m c 0 15 ∗ St m c 1 15 ∗ Ow c 28)
      ⊢ WP (F := F) c (close c) (fun _ => iprop(owns (c : Thread nD τ) oM fullShare (outF m c) ∗ anyOf c stM ∗ (StV c 0 ∗ StV c 1) ∗ Ow c 28)) := by
  have e : ∀ b : Fin 2, (rng 0 16 (doneB m c b) : sProp 𝕄) = iprop(doneB m c b 15 ∗ rng 0 15 (doneB m c b)) := fun b => rng_push (by omega) _
  unfold close waitO St
  iintro ⟨#HI, ⟨F0, D0, -⟩, ⟨F1, D1, -⟩, HO⟩
  iapply (WP_step (waitL_spec m K κ c (sbM 0) (oeM c false 1 7) (stS 0) (hsrc := (View.wordExact_bits rfl).reshape _ _) (hdst := View.wordExact_bits rfl) (n := NO) rfl _ 28)) $$ [F0 HO]
  · isplitr; · iexact HI
    isplitl [F0] <;> iassumption
  iintro %_ ⟨⟨Z0, B0⟩, V0, HO⟩
  iapply (WP_last (waitL_spec m K κ c (sbM 1) (oeM c true 1 7) (stS 1) (hsrc := (View.wordExact_bits rfl).reshape _ _) (hdst := View.wordExact_bits rfl) (n := NO) rfl _ 28)) $$ [F1 HO]
  · isplitr; · iexact HI
    isplitl [F1] <;> iassumption
  iintro %_ ⟨⟨Z1, B1⟩, V1, HO⟩
  isplitl [D0 D1 Z0 Z1]
  · iapply (out_done m c)
    rw [e, e]
    isplitl [D0 Z0]
    · isplitl [Z0] <;> iassumption
    · isplitl [Z1] <;> iassumption
  isplitl [B0 B1]
  · iapply (st_parts c).2
    isplitl [B0] <;> iassumption
  unfold StV
  isplitl [V0 V1]; · isplitl [V0] <;> iassumption
  iexact HO

/-- The six steps. -/
theorem steps_spec (c : Dev nD) {Q : PUnit → sProp 𝕄} {R : sProp 𝕄} {p : PT F PUnit}
    (h : iprop(R ∗ (Half m c 0 6 ∗ Half m c 1 6) ∗ Out m c 13 ∗ Ow c 28) ⊢ WP c p Q) :
    iprop(Invs m K κ ∗ R ∗ (Half m c 0 0 ∗ Half m c 1 0) ∗ Out m c 1 ∗ Ow c 4)
      ⊢ WP (F := F) c (do step c 0; step c 1; step c 2; step c 3; step c 4; step c 5; p) Q := by
  iintro ⟨#HI, HR, ⟨H0, H1⟩, HU, HO⟩
  iapply (WP_step (step_spec m K κ c (g := 0) (by omega))) $$ [H0 H1 HU HO]
  · isplitr; · iexact HI
    isplitl [H0]; · iexact H0
    isplitl [H1]; · iexact H1
    isplitl [HU] <;> iassumption
  iintro %_ ⟨H0, H1, HU, HO⟩
  iapply (WP_step (step_spec m K κ c (g := 1) (by omega))) $$ [H0 H1 HU HO]
  · isplitr; · iexact HI
    isplitl [H0]; · iexact H0
    isplitl [H1]; · iexact H1
    isplitl [HU] <;> iassumption
  iintro %_ ⟨H0, H1, HU, HO⟩
  iapply (WP_step (step_spec m K κ c (g := 2) (by omega))) $$ [H0 H1 HU HO]
  · isplitr; · iexact HI
    isplitl [H0]; · iexact H0
    isplitl [H1]; · iexact H1
    isplitl [HU] <;> iassumption
  iintro %_ ⟨H0, H1, HU, HO⟩
  iapply (WP_step (step_spec m K κ c (g := 3) (by omega))) $$ [H0 H1 HU HO]
  · isplitr; · iexact HI
    isplitl [H0]; · iexact H0
    isplitl [H1]; · iexact H1
    isplitl [HU] <;> iassumption
  iintro %_ ⟨H0, H1, HU, HO⟩
  iapply (WP_step (step_spec m K κ c (g := 4) (by omega))) $$ [H0 H1 HU HO]
  · isplitr; · iexact HI
    isplitl [H0]; · iexact H0
    isplitl [H1]; · iexact H1
    isplitl [HU] <;> iassumption
  iintro %_ ⟨H0, H1, HU, HO⟩
  iapply (WP_step (step_spec m K κ c (g := 5) (by omega))) $$ [H0 H1 HU HO]
  · isplitr; · iexact HI
    isplitl [H0]; · iexact H0
    isplitl [H1]; · iexact H1
    isplitl [HU] <;> iassumption
  iintro %_ ⟨H0, H1, HU, HO⟩
  iapply h
  isplitl [HR]; · iexact HR
  isplitl [H0 H1]; · isplitl [H0] <;> iassumption
  isplitl [HU] <;> iassumption

theorem fin1_lane (c : Dev nD) (d : Bool) (q : Fin 2) : Fin1 m c d q ⊢ (iprop(srcD m c d q 0 ∗ LaneOut c d q) : sProp 𝕄) := by
  unfold Fin1 LaneOut
  iintro ⟨a, b, h, r⟩
  isplitl [h]; · iexact h
  isplitl [a]; · iexact a
  isplitl [b] <;> iassumption

/-- The body after its device number. -/
def bodyC (c : Dev nD) : PT F PUnit := do
  open1 c
  open2 c
  conv
  owns4 c
  step c 0
  step c 1
  step c 2
  step c 3
  step c 4
  step c 5
  lastHalf c 0
  lastHalf c 1
  close c

theorem tail_spec (c : Dev nD) (R : sProp 𝕄) :
    iprop((Invs m K κ ∗ R ∗ All4 (XO m c)) ∗ (Half m c 0 6 ∗ Half m c 1 6) ∗ Out m c 13 ∗ Ow c 28)
      ⊢ WP (F := F) c (do lastHalf c 0; lastHalf c 1; close c)
        (fun _ => iprop(R ∗ owns (c : Thread nD τ) oM fullShare (outF m c) ∗ (anyOf c xvM ∗ anyOf c wvM ∗ anyOf c stM) ∗ (StV c 0 ∗ StV c 1) ∗ All4 (LaneOut c) ∗ TokA c ∗ Ow c 28)) := by
  have h0 := lastHalf_spec m K κ c 0
  have h1 := lastHalf_spec m K κ c 1
  iintro ⟨⟨#HI, HR, HX⟩, ⟨H0, H1⟩, HU, HO⟩
  iapply (WP_step h0) $$ [H0 HU HO]
  · isplitr; · iexact HI
    isplitl [H0]; · iexact H0
    isplitl [HU] <;> iassumption
  iintro %_ ⟨F0, HU, HO⟩
  iapply (WP_step h1) $$ [H1 HU HO]
  · isplitr; · iexact HI
    isplitl [H1]; · iexact H1
    isplitl [HU] <;> iassumption
  iintro %_ ⟨F1, HU, HO⟩
  unfold Out
  icases HU with ⟨HA, HW, S0, S1⟩
  iapply (WP_last (close_spec m K κ c)) $$ [S0 S1 HO]
  · isplitr; · iexact HI
    isplitl [S0]; · iexact S0
    isplitl [S1] <;> iassumption
  iintro %_ ⟨Hout, Hst, HV, HO⟩
  ihave HF : All4 (Fin1 m c) $$ [F0 F1]
  · unfold All4
    isplitl [F0] <;> iassumption
  ihave HF := (All4_mono (fin1_lane m c)) $$ HF
  ihave HF := (All4_sep (srcD m c · · 0) (LaneOut c)) $$ HF
  icases HF with ⟨HD, HL⟩
  isplitl [HR]; · iexact HR
  isplitl [Hout]; · iexact Hout
  isplitl [HD HX HW Hst]
  · isplitl [HD HX]
    · iapply (x_join m c)
      unfold Xin
      iapply (All4_join (srcD m c · · 0) (XO m c))
      isplitl [HD] <;> iassumption
    isplitl [HW]
    · unfold Wv
      iapply (anyOf_intro c wvM _); iexact HW
    iexact Hst
  isplitl [HV]; · iexact HV
  isplitl [HL]; · iexact HL
  isplitl [HA] <;> iassumption

theorem core_post (c : Dev nD) :
    iprop((Ins m c ∗ anyOf c wsM ∗ (ldV c 0 ∗ ldV c 1 ∗ ldV c 2) ∗ atPos ER (barCell c) 1 ∅ 0) ∗ owns (c : Thread nD τ) oM fullShare (outF m c)
        ∗ (anyOf c xvM ∗ anyOf c wvM ∗ anyOf c stM) ∗ (StV c 0 ∗ StV c 1) ∗ All4 (LaneOut c) ∗ TokA c ∗ Ow c 28)
      ⊢ (iprop(Ins m c ∗ owns (c : Thread nD τ) oM fullShare (outF m c) ∗ Loc1 c ∗ All4 (LaneOut c) ∗ TokA c
          ∗ atPos ER (barCell c) 1 ∅ 0 ∗ Ow c 28) : sProp 𝕄) := by
  unfold Loc1
  iintro ⟨⟨Hin, Hws, HV, Hat⟩, Ho, ⟨Hxv, Hwv, Hst⟩, HS, HL, HA, HO⟩
  isplitl [Hin]; · iexact Hin
  isplitl [Ho]; · iexact Ho
  isplitl [Hxv Hwv Hws Hst HV HS]
  · isplitl [Hxv Hwv Hws Hst]
    · isplitl [Hxv]; · iexact Hxv
      isplitl [Hwv]; · iexact Hwv
      isplitl [Hws] <;> iassumption
    isplitl [HV] <;> iassumption
  isplitl [HL]; · iexact HL
  isplitl [HA]; · iexact HA
  isplitl [Hat] <;> iassumption

theorem core_spec (c : Dev nD) :
    iprop(Invs m K κ ∗ Ins m c ∗ anyOf c oM ∗ Loc1 c ∗ All4 (LaneIn c) ∗ TokA c ∗ Bar c ∗ Owes0 c)
      ⊢ WP (F := F) c (bodyC c) (fun _ => iprop(Ins m c ∗ owns (c : Thread nD τ) oM fullShare (outF m c) ∗ Loc1 c ∗ All4 (LaneOut c) ∗ TokA c
          ∗ atPos ER (barCell c) 1 ∅ 0 ∗ Ow c 28)) := by
  unfold bodyC Loc1
  iintro ⟨#HI, Hin, Ho, ⟨⟨Hxv, Hwv, Hws, Hst⟩, ⟨V0, V1, V2⟩, ⟨S0, S1⟩⟩, HL, HA, HB, HO⟩
  iapply (WP_step (open1_spec m K κ c)) $$ [Hin Hxv Hws V0 V1 V2 HB HL HO]
  · isplitr; · iexact HI
    isplitl [Hin Hxv Hws V0 V1 V2]
    · isplitl [Hin]; · iexact Hin
      isplitl [Hxv]; · iexact Hxv
      isplitl [Hws]; · iexact Hws
      isplitl [V0]; · iexact V0
      isplitl [V1] <;> iassumption
    isplitl [HB]; · iexact HB
    isplitl [HL] <;> iassumption
  iintro %_ ⟨⟨Xf, F0, F1, C2, C3⟩, HP, HT, Hat, HO⟩
  iapply (WP_step (open2_spec m K κ c)) $$ [Xf HP HT HO]
  · isplitr; · iexact HI
    isplitl [Xf]; · iexact Xf
    isplitl [HP]; · iexact HP
    isplitl [HT] <;> iassumption
  iintro %_ ⟨Hx, V0, HX, HH, HO⟩
  ihave Hwv := (wv_parts c) $$ Hwv
  ihave Hwv := (Entails.of_eq (big4 _)) $$ Hwv
  iapply (WP_step (conv_spec m K κ c 4)) $$ [F0 F1 C2 C3 Hwv HO]
  · isplitr; · iexact HI
    isplitl [F0]; · iexact F0
    isplitl [F1]; · iexact F1
    isplitl [C2]; · iexact C2
    isplitl [C3]; · iexact C3
    isplitl [Hwv] <;> iassumption
  iintro %_ ⟨Hw, HW, Hws, V1, V2, HO⟩
  ihave Ho := (out_parts c) $$ Ho
  icases Ho with ⟨O0, O1⟩
  ihave Hst := (st_parts c).1 $$ Hst
  icases Hst with ⟨B0, B1⟩
  unfold All4
  icases HX with ⟨⟨X0, X1⟩, ⟨X2, X3⟩⟩
  iapply (WP_step (owns4_spec m K κ c 4)) $$ [X0 X1 X2 X3 HW O0 O1 B0 B1 S0 S1 HO]
  · isplitr; · iexact HI
    isplitl [X0 X1 X2 X3]
    · isplitl [X0]; · iexact X0
      isplitl [X2]; · iexact X2
      isplitl [X1] <;> iassumption
    isplitl [HW]; · iexact HW
    unfold St0 StV
    isplitl [O0 B0 S0]
    · isplitl [S0]; · iexact S0
      isplitl [B0] <;> iassumption
    isplitl [O1 B1 S1]
    · isplitl [S1]; · iexact S1
      isplitl [B1] <;> iassumption
    iexact HO
  iintro %_ ⟨⟨X0, X2, X1, X3⟩, HW, S0, S1, HO⟩
  ihave HX : All4 (XO m c) $$ [X0 X1 X2 X3]
  · unfold All4
    isplitl [X0 X1]
    · isplitl [X0] <;> iassumption
    · isplitl [X2] <;> iassumption
  iapply (steps_spec m K κ c (BIBase.Entails.trans (tail_spec m K κ c
    iprop(Ins m c ∗ anyOf c wsM ∗ (ldV c 0 ∗ ldV c 1 ∗ ldV c 2) ∗ atPos ER (barCell c) 1 ∅ 0)) (wp_mono _ _ _ fun _ => core_post m c)))
  · isplitr; · iexact HI
    isplitl [Hx Hw Hws V0 V1 V2 Hat HX]
    · isplitr; · iexact HI
      isplitr [HX]
      · isplitl [Hx Hw]
        · unfold Ins
          isplitl [Hx] <;> iassumption
        isplitl [Hws]; · iexact Hws
        isplitl [V0 V1 V2]
        · isplitl [V0]; · iexact V0
          isplitl [V1] <;> iassumption
        iexact Hat
      · iexact HX
    isplitl [HH]; · iexact HH
    unfold Out
    isplitr [HO]
    · isplitl [HA]; · iexact HA
      isplitl [HW]; · iexact HW
      isplitl [S0] <;> iassumption
    iexact HO

end Cert.KernelIdeal.Ring2
end
-- ==== Proof.Device.lean ====
/-
  A whole device: it takes its slots out of the two buffers, runs, and puts them back.
-/
module

public import proofs.«01_k».proof.Proof.Core

@[expose] public section

set_option maxRecDepth 16384

noncomputable section

namespace Cert.KernelIdeal.Ring2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen
open Idealize.ShloMosaic.ValueIdx (ix2)

variable {F : FTy → Type} [FloatOps F]

local notation "𝕄" => MT nD τ sig ℕ (Elt F) ℕ UU ℕ

variable (m : (ℓ : Loc nD τ sig) → Buf (Elt F) ℓ) (K : Dev nD × Option Slot → ℕ) (κ : ℕ)

/-! ## Taking the slots and giving them back -/

theorem slot_full_false (c : Dev nD) (p : Slot) (Y Z : Vec F S128x4096 .bf16) :
    iprop(owns (c : Thread nD τ) (slotM p.1 p.2.1 p.2.2) fullShare Z ∗ owns (c : Thread nD τ) (slotM p.1 p.2.1 p.2.2) fullShare.left Y) ⊢ (iprop(False) : sProp 𝕄) := by
  have hne : ∃ i, i ∈ (slotM p.1 p.2.1 p.2.2).view.set := ⟨_, Finset.mem_map_of_mem _ (Finset.mem_univ (ix2 (0 : Fin 128) (0 : Fin 4096)))⟩
  obtain ⟨i, hi⟩ := hne
  unfold owns
  iintro ⟨⟨%f, -, H⟩, ⟨%g, -, H'⟩⟩
  ihave H := (pointsTo_agree (ℓ := (slotM p.1 p.2.1 p.2.2).view.loc (c : Thread nD τ)) (q₁ := fullShare) (q₂ := fullShare.left) (f := f) (g := g) (I := (slotM p.1 p.2.1 p.2.2).view.set) (J := (slotM p.1 p.2.1 p.2.2).view.set)) $$ [H H']
  · isplitl [H] <;> iassumption
  icases H with %h
  exact absurd (h i (Finset.mem_inter.mpr ⟨hi, hi⟩)).2 (not_opDef_fullShare _)

theorem take_slot (c : Dev nD) (p : Slot) :
    iprop(inv κ (slotsBody (F := F)) ∗ anyOf c (slotM p.1 p.2.1 p.2.2)) ⊢ (iprop(|={Set.univ}=> (slotO c p ∗ tokA c p)) : sProp 𝕄) := by
  iintro ⟨#Hinv, H⟩
  imod (inv_acc (Set.mem_univ κ)) $$ Hinv with ⟨Hb, Hclose⟩
  ihave Hb := (slotsBody_acc c p) $$ Hb
  icases Hb with ⟨Hb, Hback⟩
  unfold anyOf slotInv
  icases H with ⟨%Z, H⟩
  icases Hb with (⟨%Y, HL⟩ | ⟨HA, HB⟩)
  · iexfalso
    iapply (slot_full_false c p Y Z)
    isplitl [H] <;> iassumption
  · ihave H := (owns_halves (c : Thread nD τ) (slotM p.1 p.2.1 p.2.2) fullShare Z).1 $$ H
    icases H with ⟨HL, HR⟩
    ihave Hb := Hback $$ [HL]
    · ileft; iexists Z; iexact HL
    ihave Hc := Hclose $$ Hb
    imod Hc
    imodintro
    unfold slotO slotV
    isplitl [HR HB]
    · iexists Z
      isplitl [HR] <;> iassumption
    iexact HA

theorem give_slot (c : Dev nD) (p : Slot) :
    iprop(inv κ (slotsBody (F := F)) ∗ slotO c p ∗ tokA c p) ⊢ (iprop(|={Set.univ}=> anyOf c (slotM p.1 p.2.1 p.2.2)) : sProp 𝕄) := by
  iintro ⟨#Hinv, H, HA⟩
  imod (inv_acc (Set.mem_univ κ)) $$ Hinv with ⟨Hb, Hclose⟩
  ihave Hb := (slotsBody_acc c p) $$ Hb
  icases Hb with ⟨Hb, Hback⟩
  ihave Hb := (slotInv_leftA c p) $$ [Hb HA]
  · isplitl [Hb] <;> iassumption
  unfold slotO slotV slotInv
  icases H with ⟨%Y, HR, HB⟩
  icases Hb with ⟨⟨%Z, HL⟩, HA⟩
  ihave Hb := Hback $$ [HA HB]
  · iright; isplitl [HA] <;> iassumption
  ihave Hc := Hclose $$ Hb
  imod Hc
  imodintro
  unfold anyOf owns
  icases HL with ⟨%f, -, HL⟩
  icases HR with ⟨%g, %hg, HR⟩
  ihave H := (pts_rejoin (q := fullShare)) $$ [HL HR]
  · isplitl [HL]; · iexact HL
    iexact HR
  iexists Y; iexists g
  isplitr; · ipureintro; exact hg
  iexact H

/-! ## The sixteen slots, and the four lanes -/

theorem bigBool (Φ : Bool → sProp 𝕄) : bigSep Finset.univ Φ = iprop(Φ false ∗ Φ true) := bigSep_univ_eq_bigSepL [false, true] (by decide) (by decide) Φ

theorem bufs_slots (c : Dev nD) : iprop(anyOf c (bufM false) ∗ anyOf c (bufM true)) ⊣⊢ (bigSep Finset.univ fun p : Slot => anyOf c (slotM p.1 p.2.1 p.2.2) : sProp 𝕄) := by
  have e : (bigSep Finset.univ fun p : Slot => anyOf c (slotM p.1 p.2.1 p.2.2) : sProp 𝕄)
      = iprop((bigSep Finset.univ fun p : Fin 4 × Fin 2 => anyOf c (slotM false p.1 p.2)) ∗ (bigSep Finset.univ fun p : Fin 4 × Fin 2 => anyOf c (slotM true p.1 p.2))) := by
    rw [bigSep_univ_prod, bigBool]
  rw [e]
  constructor
  · iintro ⟨H, H'⟩
    isplitl [H]
    · iapply (buf_parts c false).1; iexact H
    · iapply (buf_parts c true).1; iexact H'
  · iintro ⟨H, H'⟩
    isplitl [H]
    · iapply (buf_parts c false).2; iexact H
    · iapply (buf_parts c true).2; iexact H'

/-- A record that stays may be used at every summand. -/
theorem bigSep_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  BIBase.Entails.trans (sep_mono_left (BI.bigSep_of_persistent S R)) (by rw [← bigSep_sep']; exact bigSep_mono h)

theorem bigSep_under_fupd {I : Type} [DecidableEq I] {S : Finset I} {R : sProp 𝕄} [BI.Persistent R] {Φ Ψ : I → sProp 𝕄}
    (h : ∀ i ∈ S, iprop(R ∗ Φ i) ⊢ (iprop(|={Set.univ}=> Ψ i) : sProp 𝕄)) : iprop(R ∗ bigSep S Φ) ⊢ (iprop(|={Set.univ}=> bigSep S Ψ) : sProp 𝕄) :=
  BIBase.Entails.trans (bigSep_under (Ψ := fun i => iprop(|={Set.univ}=> Ψ i)) h) (bigSep_fupd _ _)

theorem take_slots (c : Dev nD) :
    iprop(inv κ (slotsBody (F := F)) ∗ anyOf c (bufM false) ∗ anyOf c (bufM true))
      ⊢ (iprop(|={Set.univ}=> ((bigSep Finset.univ fun p : Slot => slotO c p) ∗ TokA c)) : sProp 𝕄) := by
  unfold TokA
  rw [← bigSep_sep']
  exact BIBase.Entails.trans (sep_mono_right (bufs_slots c).1) (bigSep_under_fupd fun p _ => take_slot κ c p)

theorem give_slots (c : Dev nD) :
    iprop(inv κ (slotsBody (F := F)) ∗ (bigSep Finset.univ fun p : Slot => slotO c p) ∗ TokA c)
      ⊢ (iprop(|={Set.univ}=> (anyOf c (bufM false) ∗ anyOf c (bufM true))) : sProp 𝕄) := by
  unfold TokA
  rw [← bigSep_sep']
  exact BIBase.Entails.trans (bigSep_under_fupd fun p _ => give_slot κ c p) (BI.fupd_mono (bufs_slots c).2)

def slotEquiv : Bool × Fin 2 × Fin 4 ≃ Slot where
  toFun p := (p.1, p.2.2, p.2.1)
  invFun p := (p.1, p.2.2, p.2.1)
  left_inv _ := rfl
  right_inv _ := rfl

theorem slots_lanes (A : Slot → sProp 𝕄) : (bigSep Finset.univ A : sProp 𝕄) ⊣⊢ All4 (fun d q => bigSep Finset.univ fun s : Fin 4 => A (d, s, q)) := by
  have e : (bigSep Finset.univ A : sProp 𝕄)
      = iprop(((bigSep Finset.univ fun s : Fin 4 => A (false, s, 0)) ∗ (bigSep Finset.univ fun s : Fin 4 => A (false, s, 1)))
        ∗ ((bigSep Finset.univ fun s : Fin 4 => A (true, s, 0)) ∗ (bigSep Finset.univ fun s : Fin 4 => A (true, s, 1)))) := by
    rw [bigSep_univ_equiv slotEquiv, bigSep_univ_prod, bigBool, bigSep_univ_prod, bigSep_univ_prod, big2, big2]
    rfl
  rw [e]
  unfold All4
  constructor
  · iintro ⟨⟨a, b⟩, ⟨e, f⟩⟩
    isplitl [a e]
    · isplitl [a] <;> iassumption
    · isplitl [b] <;> iassumption
  · iintro ⟨⟨a, e⟩, ⟨b, f⟩⟩
    isplitl [a b]
    · isplitl [a] <;> iassumption
    · isplitl [e] <;> iassumption

/-- Four arrivals in a row use the four slots once each. -/
theorem rng_slots (n : ℕ) (A : Fin 4 → sProp 𝕄) : rng n (n + 4) (fun a => A (sl a)) = bigSep Finset.univ A := by
  have hs : ∀ k, sl (n + k) = sl (n % 4 + k) := fun k => by apply Fin.ext; show (n + k) % 4 = (n % 4 + k) % 4; exact (Nat.mod_add_mod n 4 k).symm
  have h0 : sl n = sl (n % 4 + 0) := hs 0
  have hu : ∀ r : Fin 4, (Finset.univ : Finset (Fin 4)) = [sl (r.val + 0), sl (r.val + 1), sl (r.val + 2), sl (r.val + 3)].toFinset := by decide
  have hn : ∀ r : Fin 4, [sl (r.val + 0), sl (r.val + 1), sl (r.val + 2), sl (r.val + 3)].Nodup := by decide
  have e : (bigSep Finset.univ A : sProp 𝕄) = iprop(A (sl (n % 4 + 0)) ∗ A (sl (n % 4 + 1)) ∗ A (sl (n % 4 + 2)) ∗ A (sl (n % 4 + 3))) :=
    bigSep_univ_eq_bigSepL _ (hu ⟨n % 4, Nat.mod_lt _ (by decide)⟩) (hn ⟨n % 4, Nat.mod_lt _ (by decide)⟩) A
  rw [e, ← hs 1, ← hs 2, ← hs 3, ← h0]
  have e3 : (rng (n + 3) (n + 4) (fun a => A (sl a)) : sProp 𝕄) = A (sl (n + 3)) := by
    unfold rng; rw [show Finset.Ico (n + 3) (n + 4) = {n + 3} from Nat.Ico_succ_singleton (n + 3), bigSep_singleton]
  rw [rng_pop (by omega), rng_pop (by omega), rng_pop (by omega), e3]

/-! ## What a device starts with and ends with -/

def Bufs (c : Dev nD) : sProp 𝕄 := iprop((anyOf c xvM ∗ anyOf c wvM ∗ anyOf c wsM ∗ anyOf c stM) ∗ anyOf c (bufM false) ∗ anyOf c (bufM true))
def Sems (c : Dev nD) : sProp 𝕄 := iprop((ldV c 0 ∗ ldV c 1 ∗ ldV c 2) ∗ (StV c 0 ∗ StV c 1))
def SendV (c : Dev nD) : sProp 𝕄 := bigSep Finset.univ fun p : Slot => semVal (scell c p.1 p.2.1 p.2.2) 0
def RecvV (c : Dev nD) : sProp 𝕄 := bigSep Finset.univ fun p : Slot => semVal (rcell c p.1 p.2.1 p.2.2) 0

/-- A lane's part of the protocol. -/
def LaneG (c : Dev nD) (d : Bool) (q : Fin 2) : sProp 𝕄 :=
  iprop(rng 1 5 (posA c d q) ∗ rng 1 8 (credA c d q) ∗ rng 1 8 (dutT c d q) ∗ rng 1 5 (openA c d q))

def Start (c : Dev nD) : sProp 𝕄 :=
  iprop(∃ K κ, Invs m K κ ∗ Ins m c ∗ anyOf c oM ∗ Sems c ∗ SendV c ∗ All4 (LaneG c) ∗ Bar c)
def End (c : Dev nD) : sProp 𝕄 :=
  iprop((Ins m c ∗ owns (c : Thread nD τ) oM fullShare (outF m c)) ∗ semVal (barCell c) 0 ∗ (Sems c ∗ SendV c ∗ RecvV c) ∗ Bufs c)

theorem lane_in (c : Dev nD) (d : Bool) (q : Fin 2) :
    iprop(LaneG c d q ∗ rng 0 4 (semS c d q) ∗ bigSep Finset.univ fun s : Fin 4 => slotO c (d, s, q)) ⊢ (LaneIn c d q : sProp 𝕄) := by
  have e4 : (rng 4 5 (openA c d q) : sProp 𝕄) = openA c d q 4 := by
    unfold rng; rw [show Finset.Ico 4 5 = {4} by decide, bigSep_singleton]
  have eo : (rng 1 5 (openA c d q) : sProp 𝕄) = iprop(openA c d q 1 ∗ openA c d q 2 ∗ openA c d q 3 ∗ openA c d q 4) := by
    rw [rng_pop (by omega), rng_pop (by omega), rng_pop (by omega), e4]
  have es : (bigSep Finset.univ fun s : Fin 4 => slotO c (d, s, q) : sProp 𝕄)
      = iprop(slotO c (d, sl 0, q) ∗ slotO c (d, sl 1, q) ∗ slotO c (d, sl 2, q) ∗ slotO c (d, sl 3, q)) := big4 _
  unfold LaneIn Pre LaneG
  rw [eo, es]
  iintro ⟨⟨HP, HC, HD, ⟨O1, O2, O3, O4⟩⟩, HS, S0, S1, S2, S3⟩
  isplitl [HP HC HD O3 O4 HS S0 S3]
  · isplitl [HP]; · iexact HP
    isplitl [HC]; · iexact HC
    isplitl [HD]; · iexact HD
    isplitl [HS]; · iexact HS
    isplitl [S0]; · iexact S0
    isplitl [S3]; · iexact S3
    isplitl [O3] <;> iassumption
  isplitl [S1 S2]
  · isplitl [S1] <;> iassumption
  isplitl [O1] <;> iassumption

theorem lane_out (c : Dev nD) (d : Bool) (q : Fin 2) :
    LaneOut c d q ⊢ (iprop((rng 8 12 (posA c d q) ∗ rng 7 11 (semS c d q)) ∗ bigSep Finset.univ fun s : Fin 4 => slotO c (d, s, q)) : sProp 𝕄) := by
  have es : (bigSep Finset.univ fun s : Fin 4 => slotO c (d, s, q) : sProp 𝕄)
      = iprop(slotO c (d, sl 0, q) ∗ slotO c (d, sl 1, q) ∗ slotO c (d, sl 2, q) ∗ slotO c (d, sl 3, q)) := big4 _
  rw [es]
  unfold LaneOut
  iintro ⟨HP, HS, S3, S2, S1, S0⟩
  isplitl [HP HS]
  · isplitl [HP] <;> iassumption
  isplitl [S0]; · iexact S0
  isplitl [S1]; · iexact S1
  isplitl [S2] <;> iassumption

theorem sends_lanes (c : Dev nD) (n : ℕ) : (SendV c : sProp 𝕄) ⊣⊢ All4 (fun d q => rng n (n + 4) (semS c d q)) := by
  have e : (fun (d : Bool) (q : Fin 2) => (rng n (n + 4) (semS c d q) : sProp 𝕄)) = fun d q => bigSep Finset.univ fun s : Fin 4 => semVal (scell c d s q) 0 :=
    funext fun d => funext fun q => rng_slots n fun s => semVal (scell c d s q) 0
  rw [e]
  exact slots_lanes fun p : Slot => semVal (scell c p.1 p.2.1 p.2.2) 0
theorem slotO_lanes (c : Dev nD) : (bigSep Finset.univ fun p : Slot => slotO c p : sProp 𝕄) ⊣⊢ All4 (fun d q => bigSep Finset.univ fun s : Fin 4 => slotO c (d, s, q)) :=
  slots_lanes fun p : Slot => slotO c p

/-! ## Closing the cells -/

theorem recv_close (c : Dev nD) (d : Bool) (q : Fin 2) {a : ℕ} (h₁ : 8 ≤ a) (h₂ : a < 12) :
    iprop(Invs m K κ ∗ posA c d q a) ⊢ (iprop(|={Set.univ}=> semVal (rcell c d (sl a) q) 0) : sProp 𝕄) := by
  have hR : ∀ r, rnd a ≤ r → (Rd (F := F) m).duties (rcell c d (sl a) q) r = ∅ := fun r hr =>
    duties_recv_none m c d (sl a) q (by
      have : arr (sl a) (rnd a) ≤ arr (sl a) r := by unfold arr; omega
      refine lt_of_lt_of_le ?_ this
      interval_cases a <;> decide)
  unfold posA
  iintro ⟨#HI, H⟩
  ihave #Hc := (Invs_cell m K κ (c, some (d, sl a, q))) $$ HI
  iapply (cell_close ER (Rd m) (Set.mem_univ (K (c, some (d, sl a, q)))) (fun h => h) (R := rnd a) hR)
  isplitr; · iexact Hc
  iexact H

theorem bar_close (c : Dev nD) :
    iprop(Invs m K κ ∗ atPos ER (barCell c) 1 ∅ 0) ⊢ (iprop(|={Set.univ}=> semVal (barCell c) 0) : sProp 𝕄) := by
  have hR : ∀ r, 1 ≤ r → (Rd (F := F) m).duties (barCell c) r = ∅ := fun r hr => if_neg (by omega)
  iintro ⟨#HI, H⟩
  ihave #Hc := (Invs_cell m K κ (c, none)) $$ HI
  iapply (cell_close ER (Rd m) (Set.mem_univ (K (c, none))) (fun h => h) (R := 1) hR)
  isplitr; · iexact Hc
  iexact H

theorem recvs_close (c : Dev nD) :
    iprop(Invs m K κ ∗ All4 (fun d q => rng 8 12 (posA c d q))) ⊢ (iprop(|={Set.univ}=> RecvV c) : sProp 𝕄) := by
  have h : ∀ d q, iprop(Invs m K κ ∗ rng 8 12 (posA c d q)) ⊢ (iprop(|={Set.univ}=> bigSep Finset.univ fun s : Fin 4 => semVal (rcell c d s q) 0) : sProp 𝕄) := fun d q => by
    rw [← rng_slots 8]
    exact bigSep_under_fupd fun a ha => recv_close m K κ c d q (Finset.mem_Ico.mp ha).1 (Finset.mem_Ico.mp ha).2
  unfold All4
  iintro ⟨#HI, ⟨⟨a, b⟩, ⟨e, f⟩⟩⟩
  imod (h false 0) $$ [a] with a
  · isplitr; · iexact HI
    iexact a
  imod (h true 0) $$ [b] with b
  · isplitr; · iexact HI
    iexact b
  imod (h false 1) $$ [e] with e
  · isplitr; · iexact HI
    iexact e
  imod (h true 1) $$ [f] with f
  · isplitr; · iexact HI
    iexact f
  imodintro
  unfold RecvV
  iapply (slots_lanes fun p : Slot => semVal (rcell c p.1 p.2.1 p.2.2) 0).2
  unfold All4
  isplitl [a b]
  · isplitl [a] <;> iassumption
  · isplitl [e] <;> iassumption

/-! ## The device -/

theorem finish (c : Dev nD) :
    iprop(Invs m K κ ∗ Ins m c ∗ owns (c : Thread nD τ) oM fullShare (outF m c) ∗ Loc1 c ∗ All4 (LaneOut c) ∗ TokA c ∗ atPos ER (barCell c) 1 ∅ 0 ∗ Ow c 28)
      ⊢ (iprop(|={Set.univ}=> (End m c ∗ Ow c 28)) : sProp 𝕄) := by
  unfold End Loc1 Bufs Sems
  iintro ⟨#HI, Hin, Ho, ⟨HB, HV, HS⟩, HL, HA, Hat, HO⟩
  ihave #Hsl := (Invs_slots m K κ) $$ HI
  ihave HL := (All4_mono (lane_out c)) $$ HL
  ihave HL := (All4_sep (fun d q => iprop(rng 8 12 (posA c d q) ∗ rng 7 11 (semS c d q))) fun d q => bigSep Finset.univ fun s : Fin 4 => slotO c (d, s, q)) $$ HL
  icases HL with ⟨HL, HSl⟩
  ihave HL := (All4_sep (fun d q => rng 8 12 (posA c d q)) fun d q => rng 7 11 (semS c d q)) $$ HL
  icases HL with ⟨HP, HSe⟩
  ihave HSl := (slotO_lanes c).2 $$ HSl
  ihave HSe := (sends_lanes c 7).2 $$ HSe
  imod (give_slots κ c) $$ [HSl HA] with HBuf
  · isplitr; · iexact Hsl
    isplitl [HSl] <;> iassumption
  imod (recvs_close m K κ c) $$ [HP] with HR
  · isplitr; · iexact HI
    iexact HP
  imod (bar_close m K κ c) $$ [Hat] with Hb
  · isplitr; · iexact HI
    iexact Hat
  imodintro
  isplitr [HO]
  · isplitl [Hin Ho]
    · isplitl [Hin] <;> iassumption
    isplitl [Hb]; · iexact Hb
    isplitl [HV HS HSe HR]
    · isplitl [HV HS]
      · isplitl [HV] <;> iassumption
      isplitl [HSe] <;> iassumption
    isplitl [HB] <;> iassumption
  iexact HO

theorem WP_fupd {c : Dev nD} {α : Type} {p : PT F α} {Q : α → sProp 𝕄} : WP (F := F) c p (fun a => iprop(|={Set.univ}=> Q a)) ⊢ WP c p Q :=
  wp_fupd frame (wpE (defs₀ (F := F)) 𝒱₀ (c : Thread nD τ) none) Set.univ p Q

theorem core_full (c : Dev nD) :
    iprop(Invs m K κ ∗ Ins m c ∗ anyOf c oM ∗ Loc1 c ∗ All4 (LaneIn c) ∗ TokA c ∗ Bar c ∗ Owes0 c)
      ⊢ WP (F := F) c (bodyC c) (fun _ => iprop(End m c ∗ Ow c 28)) := by
  refine BIBase.Entails.trans ?_ WP_fupd
  iintro ⟨#HI, H⟩
  iapply (WP_last (core_spec m K κ c)) $$ [H]
  · isplitr; · iexact HI
    iexact H
  iintro %_ H
  iapply (finish m K κ c)
  isplitr; · iexact HI
  iexact H

theorem WP_body {c : Dev nD} {P : sProp 𝕄} {Q : PUnit → sProp 𝕄} (h : P ⊢ WP (F := F) c (bodyC c) Q) : P ⊢ WP (F := F) c body Q := by
  have hb : (body : PT F PUnit) = .op .deviceId (fun c' => bodyC c') := rfl
  rw [hb]
  unfold WP
  rw [wp_deviceId]
  exact h

theorem device_spec (c : Dev nD) :
    iprop(Start m c ∗ Bufs c ∗ Owes0 c) ⊢ WP (F := F) c body (fun _ => iprop(End m c ∗ Ow c 28)) := by
  refine WP_body ?_
  unfold Start Bufs
  iintro ⟨⟨%K, %κ, #HI, Hin, Ho, HSem, HSe, HL, HB⟩, ⟨Hbufs, Hslots⟩, HO⟩
  ihave #Hsl := (Invs_slots m K κ) $$ HI
  imod (take_slots κ c) $$ [Hslots] with ⟨HSl, HA⟩
  · isplitr; · iexact Hsl
    iexact Hslots
  ihave HSl := (slotO_lanes c).1 $$ HSl
  ihave HSe := (sends_lanes c 0).1 $$ HSe
  ihave HL := (All4_join (LaneG c) fun d q => iprop(rng 0 4 (semS c d q) ∗ bigSep Finset.univ fun s : Fin 4 => slotO c (d, s, q))) $$ [HL HSl HSe]
  · isplitl [HL]; · iexact HL
    iapply (All4_join (fun d q => rng 0 4 (semS c d q)) fun d q => bigSep Finset.univ fun s : Fin 4 => slotO c (d, s, q))
    isplitl [HSe]; · iexact HSe
    iexact HSl
  ihave HL := (All4_mono (lane_in c)) $$ HL
  iapply (core_full m K κ c)
  isplitr; · iexact HI
  isplitl [Hin]; · iexact Hin
  isplitl [Ho]; · iexact Ho
  isplitl [Hbufs HSem]
  · unfold Loc1 Sems
    isplitl [Hbufs]; · iexact Hbufs
    iexact HSem
  isplitl [HL]; · iexact HL
  isplitl [HA]; · iexact HA
  isplitl [HB] <;> iassumption

end Cert.KernelIdeal.Ring2
end
-- ==== Proof.Launch.lean ====
/-
  The launch: the ghost state made and dealt, the credits, and the run of the whole mesh.
-/
module

public import proofs.«01_k».proof.Proof.Device
public import proofs.«01_k».proof.Proof.Gen.KernelIdeal.Launch
public import Idealize.ShloMosaic.Lib.Pipeline.Launch
public import Idealize.ShloMosaic.Lib.Pipeline.CollectiveSegs

@[expose] public section

set_option maxRecDepth 16384

noncomputable section

namespace Cert.KernelIdeal.Ring2

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × Option Slot → ℕ) (κ : ℕ)

/-! ## The kernel's own semaphores -/

/-- Loads, stores, sends and receives. -/
abbrev SemIx : Type := (Fin 3 ⊕ Fin 2) ⊕ (Slot ⊕ Slot)
def osem : SemIx → SemLoc sig
  | .inl (.inl i) => .dma (ldS i)
  | .inl (.inr b) => .dma (stS b)
  | .inr (.inl p) => .dma (ssS p.1 p.2.1 p.2.2)
  | .inr (.inr p) => .dma (rsS p.1 p.2.1 p.2.2)

theorem ownSemFacts : Pipeline.OwnSemFacts cfg0.spec osem := by decide

theorem ownSems0_eq (c : Dev nD) : (Pipeline.ownSems0 (Ix := ℕ) (Name := ℕ) (U := UU) (Lvl := ℕ) (Val := Elt F) (τ := τ) osem c : sProp 𝕄)
    = iprop(Sems c ∗ SendV c ∗ RecvV c) := by
  have e3 : ∀ Φ : Fin 3 → sProp 𝕄, bigSep Finset.univ Φ = iprop(Φ 0 ∗ Φ 1 ∗ Φ 2) := fun Φ => bigSep_univ_eq_bigSepL [0, 1, 2] (by decide) (by decide) Φ
  unfold Pipeline.ownSems0
  rw [bigSep_univ_sum, bigSep_univ_sum, bigSep_univ_sum, e3, big2]
  rfl

theorem unscopedSems0_eq (c : Dev nD) : (unscopedSems0 c : sProp 𝕄) = semVal (barCell c) 0 := by
  unfold unscopedSems0; rw [bigSep_eq_bigSepL_of_eq [SemLoc.reg barrier0] (by decide) (by decide)]; rfl

theorem bigOption (Φ : Option Slot → sProp 𝕄) : bigSep Finset.univ Φ = iprop(Φ none ∗ bigSep Finset.univ fun p => Φ (some p)) := by
  have hu : (Finset.univ : Finset (Option Slot)) = insert none (Finset.univ.map Function.Embedding.some) := by decide
  rw [hu, bigSep_insert (by decide), bigSep_map]; rfl

/-! ## Cells and tokens -/

theorem kcell_injective : Function.Injective kcell := by
  have hd : ∀ p : Dev nD × Option Slot, dec (kcell p).2 = some p.2 := by
    rintro ⟨c, _ | ⟨d, s, q⟩⟩
    · rfl
    · exact dec_rsS d s q
  have hc : ∀ p : Dev nD × Option Slot, (kcell p).1.1 = p.1 := by rintro ⟨c, _ | ⟨d, s, q⟩⟩ <;> rfl
  intro p p' h
  exact Prod.ext (by rw [← hc p, ← hc p', h]) (Option.some.inj (by rw [← hd p, ← hd p', h]))
def kcells : Finset (GSem nD τ sig) := Finset.univ.map ⟨kcell, kcell_injective⟩

/-- A device's tokens: the barrier's two, one for each arrival of each lane, and two for each slot. -/
abbrev TokIx : Type := Bool ⊕ ((Bool × Fin 2 × Fin 7) ⊕ (Slot ⊕ Slot))
def tkey : TokIx → Option Slot × ℕ × Bool
  | .inl b => (none, 0, b)
  | .inr (.inl p) => (some (p.1, sl (p.2.2.val + 1), p.2.1), rnd (p.2.2.val + 1), false)
  | .inr (.inr (.inl p)) => (some p, 7, false)
  | .inr (.inr (.inr p)) => (some p, 8, false)
theorem tkey_injective : Function.Injective tkey := by
  have hr : ∀ i : Fin 7, rnd (i.val + 1) ≤ 1 := by decide
  have hi : ∀ i j : Fin 7, sl (i.val + 1) = sl (j.val + 1) → rnd (i.val + 1) = rnd (j.val + 1) → i = j := by decide
  rintro (b | ⟨d, q, i⟩ | p | p) (b' | ⟨d', q', i'⟩ | p' | p') h <;> unfold tkey at h <;> simp only [Prod.mk.injEq, Option.some.injEq, reduceCtorEq, _root_.false_and] at h
  · rw [h.2.2]
  · obtain ⟨⟨h1, h2, h3⟩, h4, -⟩ := h
    rw [h1, h3, hi i i' h2 h4]
  · have := hr i; omega
  · have := hr i; omega
  · have := hr i'; omega
  · rw [h.1]
  · omega
  · have := hr i'; omega
  · omega
  · rw [h.1]
def tokOf (x : Dev nD × TokIx) : GSem nD τ sig × ℕ × Bool := (kcell (x.1, (tkey x.2).1), (tkey x.2).2)
theorem tokOf_injective : Function.Injective tokOf := by
  rintro ⟨c, j⟩ ⟨c', j'⟩ h
  have h1 := Prod.mk.inj (kcell_injective (Prod.mk.inj h).1)
  have h2 : tkey j = tkey j' := Prod.ext h1.2 (Prod.mk.inj h).2
  exact Prod.ext h1.1 (tkey_injective h2)
def ktoks : Finset (GSem nD τ sig × ℕ × Bool) := Finset.univ.map ⟨tokOf, tokOf_injective⟩

def u₀ : UU := (initOf (Pipeline.cells cfgs cellOf_inj) (Pipeline.launchToks cfgs cellOf_inj), (initOf kcells ktoks, 1))

/-- The token of a device's own arrival. -/
def ownT (c : Dev nD) (d : Bool) (q : Fin 2) (a : ℕ) : sProp 𝕄 := dutyTok ER (rcell c d (sl a) q) (rnd a) false

def toks (c : Dev nD) : sProp 𝕄 :=
  iprop((dutyTok ER (barCell c) 0 false ∗ dutyTok ER (barCell c) 0 true)
    ∗ (bigSep Finset.univ fun p : Bool × Fin 2 × Fin 7 => ownT c p.1 p.2.1 (p.2.2.val + 1))
    ∗ (bigSep Finset.univ fun p : Slot => tokA c p) ∗ (bigSep Finset.univ fun p : Slot => tokB c p))

def G (c : Dev nD) : sProp 𝕄 :=
  iprop((bigSep Finset.univ fun o : Option Slot => roundState ER (Rd m) (kcell (c, o)) 0)
    ∗ (bigSep Finset.univ fun o : Option Slot => reached ER (kcell (c, o)) 0)
    ∗ (bigSep Finset.univ fun o : Option Slot => atPos ER (kcell (c, o)) 0 ∅ 0) ∗ toks c)

theorem fund_ghost : BI.own (ER (initOf kcells ktoks)) ⊢ (iprop(|==> bigSep Finset.univ (G m)) : sProp 𝕄) := by
  have hX (Φ : GSem nD τ sig → sProp 𝕄) : bigSep kcells Φ = bigSep Finset.univ fun c : Dev nD => bigSep Finset.univ fun o : Option Slot => Φ (kcell (c, o)) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]
    refine bigSep_congr fun c _ => ?_
    unfold toks
    rw [bigSep_univ_sum, bigBool, bigSep_univ_sum, bigSep_univ_sum]
    rfl
  iintro HX
  imod (Rounds.fund ER (Rd m) kcells ktoks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hr]; · iexact Hr
  isplitl [Hat] <;> iassumption

/-! ## The lanes' arrivals -/

theorem lanes7 (B : Bool → Fin 2 → ℕ → sProp 𝕄) :
    (bigSep Finset.univ fun p : Bool × Fin 2 × Fin 7 => B p.1 p.2.1 (p.2.2.val + 1) : sProp 𝕄) ⊢ All4 (fun d q => rng 1 8 (B d q)) := by
  have e7 : ∀ A : ℕ → sProp 𝕄, (bigSep Finset.univ fun i : Fin 7 => A (i.val + 1) : sProp 𝕄) = rng 1 8 A := fun A => by
    unfold rng
    rw [show Finset.Ico 1 8 = Finset.univ.map ⟨fun i : Fin 7 => i.val + 1, fun i j h => Fin.ext (Nat.succ.inj h)⟩ by decide, bigSep_map]
    rfl
  have e : (bigSep Finset.univ fun p : Bool × Fin 2 × Fin 7 => B p.1 p.2.1 (p.2.2.val + 1) : sProp 𝕄)
      = iprop((rng 1 8 (B false 0) ∗ rng 1 8 (B false 1)) ∗ (rng 1 8 (B true 0) ∗ rng 1 8 (B true 1))) := by
    rw [bigSep_univ_prod, bigBool, bigSep_univ_prod, bigSep_univ_prod, big2, big2, ← e7, ← e7, ← e7, ← e7]
  rw [e]
  unfold All4
  iintro ⟨⟨a, b⟩, ⟨e, f⟩⟩
  isplitl [a e]
  · isplitl [a] <;> iassumption
  · isplitl [b] <;> iassumption

/-! ## What each device starts from -/

/-- The tokens a device pays with: of its neighbours' barriers, and of the arrivals at its targets. -/
def payT (c : Dev nD) : sProp 𝕄 :=
  iprop((dutyTok ER (barCell (tgt true c)) 0 false ∗ dutyTok ER (barCell (tgt false c)) 0 true)
    ∗ (bigSep Finset.univ fun p : Bool × Fin 2 × Fin 7 => dutT c p.1 p.2.1 (p.2.2.val + 1)))

def tgtEquiv (d : Bool) : Dev nD ≃ Dev nD where
  toFun := tgt d
  invFun := tgt (!d)
  left_inv := tgt_tgt d
  right_inv := tgt_tgt' d

theorem toks_dealt : (bigSep Finset.univ fun c : Dev nD => (iprop((dutyTok ER (barCell c) 0 false ∗ dutyTok ER (barCell c) 0 true)
      ∗ bigSep Finset.univ fun p : Bool × Fin 2 × Fin 7 => ownT c p.1 p.2.1 (p.2.2.val + 1)) : sProp 𝕄))
    ⊢ bigSep Finset.univ fun c : Dev nD => payT c := by
  have hl : ∀ d : Bool, (bigSep Finset.univ fun c : Dev nD => bigSep Finset.univ fun p : Fin 2 × Fin 7 => (ownT c d p.1 (p.2.val + 1) : sProp 𝕄))
      = bigSep Finset.univ fun c : Dev nD => bigSep Finset.univ fun p : Fin 2 × Fin 7 => dutT c d p.1 (p.2.val + 1) := fun d =>
    bigSep_univ_equiv (tgtEquiv d) fun c : Dev nD => bigSep Finset.univ fun p : Fin 2 × Fin 7 => (ownT c d p.1 (p.2.val + 1) : sProp 𝕄)
  have e : ∀ Φ : Dev nD → Bool → Fin 2 × Fin 7 → sProp 𝕄, (bigSep Finset.univ fun c : Dev nD => bigSep Finset.univ fun p : Bool × Fin 2 × Fin 7 => Φ c p.1 p.2)
      = iprop((bigSep Finset.univ fun c : Dev nD => bigSep Finset.univ fun p : Fin 2 × Fin 7 => Φ c false p) ∗ (bigSep Finset.univ fun c : Dev nD => bigSep Finset.univ fun p : Fin 2 × Fin 7 => Φ c true p)) := fun Φ => by
    rw [← bigSep_sep']
    exact bigSep_congr fun c _ => by rw [bigSep_univ_prod, bigBool]
  unfold payT
  rw [bigSep_sep', bigSep_sep', bigSep_sep', bigSep_sep', e fun c d p => ownT c d p.1 (p.2.val + 1), e fun c d p => dutT c d p.1 (p.2.val + 1), hl, hl,
    bigSep_univ_equiv (tgtEquiv true) (fun c : Dev nD => (dutyTok ER (barCell c) 0 false : sProp 𝕄)),
    bigSep_univ_equiv (tgtEquiv false) (fun c : Dev nD => (dutyTok ER (barCell c) 0 true : sProp 𝕄))]
  exact BIBase.Entails.rfl

def Cells (K : Dev nD × Option Slot → ℕ) : sProp 𝕄 := bigSep Finset.univ fun p : Dev nD × Option Slot => cellInv ER (Rd m) (K p) (kcell p)
def Opened : sProp 𝕄 := bigSep Finset.univ fun p : Dev nD × Option Slot => reached ER (kcell p) 0
instance Cells_persistent : BI.Persistent (Cells m K : sProp 𝕄) := by unfold Cells; infer_instance
instance Opened_persistent : BI.Persistent (Opened : sProp 𝕄) := by unfold Opened; infer_instance

def G' (c : Dev nD) : sProp 𝕄 :=
  iprop(∃ K κ, (Cells m K ∗ inv κ (slotsBody (F := F)) ∗ Opened)
    ∗ (Sems c ∗ SendV c) ∗ (bigSep Finset.univ fun o : Option Slot => atPos ER (kcell (c, o)) 0 ∅ 0) ∗ payT c)

/-- What a device alone makes of its semaphores and its ghost state. -/
def Alloc (c : Dev nD) : sProp 𝕄 :=
  iprop((bigSep Finset.univ fun o : Option Slot => iprop(∃ κ : ℕ, cellInv ER (Rd m) κ (kcell (c, o))))
    ∗ (bigSep Finset.univ fun o : Option Slot => reached ER (kcell (c, o)) 0)
    ∗ (bigSep Finset.univ fun p : Slot => slotInv c p)
    ∗ ((Sems c ∗ SendV c) ∗ (bigSep Finset.univ fun o : Option Slot => atPos ER (kcell (c, o)) 0 ∅ 0))
    ∗ ((dutyTok ER (barCell c) 0 false ∗ dutyTok ER (barCell c) 0 true) ∗ bigSep Finset.univ fun p : Bool × Fin 2 × Fin 7 => ownT c p.1 p.2.1 (p.2.2.val + 1)))

theorem core_alloc (c : Dev nD) :
    iprop(Pipeline.ownSems0 (Ix := ℕ) (Name := ℕ) (U := UU) (Lvl := ℕ) (Val := Elt F) (τ := τ) osem c ∗ unscopedSems0 c ∗ G m c)
      ⊢ (iprop(|={Set.univ}=> Alloc m c) : sProp 𝕄) := by
  have hv : (bigSep Finset.univ fun o : Option Slot => semVal (kcell (c, o)) 0 : sProp 𝕄) = iprop(semVal (barCell c) 0 ∗ RecvV c) := bigOption _
  have hi : iprop((bigSep Finset.univ fun o : Option Slot => semVal (kcell (c, o)) 0) ∗ bigSep Finset.univ fun o : Option Slot => roundState ER (Rd m) (kcell (c, o)) 0)
      ⊢ (iprop(|={Set.univ}=> bigSep Finset.univ fun o : Option Slot => iprop(∃ κ : ℕ, cellInv ER (Rd m) κ (kcell (c, o)))) : sProp 𝕄) := by
    rw [← bigSep_sep']
    exact (bigSep_mono fun o _ => (Rounds.body_intro ER (Rd m) (kcell (c, o))).trans inv_alloc).trans (bigSep_fupd _ _)
  have hs : iprop((bigSep Finset.univ fun p : Slot => tokA c p) ∗ (bigSep Finset.univ fun p : Slot => tokB c p)) ⊢ (bigSep Finset.univ fun p : Slot => slotInv c p : sProp 𝕄) := by
    rw [← bigSep_sep']
    refine bigSep_mono fun p _ => ?_
    show iprop(tokA c p ∗ tokB c p) ⊢ (slotInv c p : sProp 𝕄)
    unfold slotInv
    iintro H; iright; iexact H
  rw [ownSems0_eq, unscopedSems0_eq]
  unfold G toks Alloc
  iintro ⟨⟨HV, HS, HR⟩, Hb, Hst, Hr, Hat, Ht, Hl, HA, HB⟩
  imod hi $$ [HR Hb Hst] with Hc
  · isplitl [HR Hb]
    · rw [hv]; isplitl [Hb] <;> iassumption
    iexact Hst
  imodintro
  isplitl [Hc]; · iexact Hc
  isplitl [Hr]; · iexact Hr
  isplitl [HA HB]
  · iapply hs; isplitl [HA] <;> iassumption
  isplitl [HV HS Hat]
  · isplitl [HV HS]
    · isplitl [HV] <;> iassumption
    iexact Hat
  isplitl [Ht] <;> iassumption

theorem regroup_one : iprop((Cells m K ∗ inv κ (slotsBody (F := F)) ∗ Opened)
      ∗ (bigSep Finset.univ fun c : Dev nD => iprop((Sems c ∗ SendV c) ∗ (bigSep Finset.univ fun o : Option Slot => atPos ER (kcell (c, o)) 0 ∅ 0)))
      ∗ bigSep Finset.univ fun c : Dev nD => payT c)
    ⊢ (bigSep Finset.univ (G' m) : sProp 𝕄) := by
  rw [← bigSep_sep']
  refine bigSep_under fun c _ => ?_
  show iprop((Cells m K ∗ inv κ (slotsBody (F := F)) ∗ Opened)
      ∗ ((Sems c ∗ SendV c) ∗ (bigSep Finset.univ fun o : Option Slot => atPos ER (kcell (c, o)) 0 ∅ 0)) ∗ payT c) ⊢ (G' m c : sProp 𝕄)
  unfold G'
  iintro ⟨HR, ⟨HV, Hat⟩, HT⟩
  iexists K, κ
  isplitl [HR]; · iexact HR
  isplitl [HV]; · iexact HV
  isplitl [Hat] <;> iassumption

theorem regroup : (bigSep Finset.univ fun c : Dev nD => Alloc m c : sProp 𝕄) ⊢ (iprop(|={Set.univ}=> bigSep Finset.univ (G' m)) : sProp 𝕄) := by
  have hsb : (bigSep Finset.univ fun c : Dev nD => bigSep Finset.univ fun p : Slot => slotInv c p : sProp 𝕄) = slotsBody := by
    unfold slotsBody; rw [bigSep_univ_prod]
  have hro : (bigSep Finset.univ fun c : Dev nD => bigSep Finset.univ fun o : Option Slot => reached ER (kcell (c, o)) 0 : sProp 𝕄) = Opened := by
    unfold Opened; rw [bigSep_univ_prod]
  unfold Alloc
  rw [bigSep_sep', bigSep_sep', bigSep_sep', bigSep_sep', hsb, hro, ← bigSep_univ_prod (fun p : Dev nD × Option Slot => iprop(∃ κ : ℕ, cellInv ER (Rd m) κ (kcell p)))]
  iintro ⟨HC, #HO, HS, HL, HT⟩
  ihave HK := (BI.bigSep_exists_pi Finset.univ (fun (p : Dev nD × Option Slot) (κ : ℕ) => (cellInv ER (Rd m) κ (kcell p) : sProp 𝕄))) $$ HC
  icases HK with ⟨%K, #HC⟩
  imod (inv_alloc (P := slotsBody (F := F)) (E := Set.univ)) $$ HS with ⟨%κ, #HI⟩
  ihave HT := toks_dealt $$ HT
  imodintro
  iapply (regroup_one m K κ)
  isplitr
  · unfold Cells
    isplitr; · iexact HC
    isplitr; · iexact HI
    iexact HO
  isplitl [HL] <;> iassumption

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ iprop(|={Set.univ}=> bigSep Finset.univ (G' m)) := by
  refine BIBase.Entails.trans (bigSep_mono fun c _ => core_alloc m c) ?_
  refine BIBase.Entails.trans (bigSep_fupd _ _) ?_
  iintro H
  imod H
  iapply (regroup m); iexact H

/-! ## The launch credit -/

theorem hops_injective : Function.Injective fun p : Bool × Fin 2 × Fin 7 => hopIx p.1 p.2.1 p.2.2.val := by decide
theorem hops_all : Finset.Ico 0 28 = Finset.univ.map ⟨fun p : Bool × Fin 2 × Fin 7 => hopIx p.1 p.2.1 p.2.2.val, hops_injective⟩ := by decide

theorem creds (c : Dev nD) :
    (Pipeline.launchCred O₀ c : sProp 𝕄) ⊢ iprop(cred (tallyAt (barCell c) 0 2) ∗ All4 (fun d q => rng 1 8 (credA c d q))) := by
  have hO : (Pipeline.launchCred O₀ c : sProp 𝕄) = iprop((Pipeline.launchCred (fun d => ∑ k ∈ Finset.Ico 0 28, hopT d k) c
      ∗ Pipeline.launchCred (fun d => tallyAt (barCell (tgt false d)) 0 1) c) ∗ Pipeline.launchCred (fun d => tallyAt (barCell (tgt true d)) 0 1) c) := by
    rw [← Pipeline.launchCred_add, ← Pipeline.launchCred_add]; rfl
  have hb : ∀ e, (Pipeline.launchCred (fun d => tallyAt (barCell (tgt e d)) 0 1) c : sProp 𝕄) ⊢ cred (tallyAt (barCell c) 0 1) := fun e =>
    Pipeline.launchCred_tallyAt (.reg barrier0) (tgt e) (tgt (!e)) (tgt_tgt' e) (tgt_tgt e) 0 1 c
  have hh : ∀ k, (Pipeline.launchCred (fun d => hopT d k) c : sProp 𝕄) ⊢ credA c (hd k) (hq k) (k / 4 + 1) := fun k =>
    Pipeline.launchCred_tallyAt (.dma (rsS (hd k) (sl (k / 4 + 1)) (hq k))) (tgt (hd k)) (tgt (!(hd k))) (tgt_tgt' _) (tgt_tgt _) (k / 4 + 1) N c
  have hix : (bigSep (Finset.Ico 0 28) (fun k => credA c (hd k) (hq k) (k / 4 + 1)) : sProp 𝕄)
      = bigSep Finset.univ fun p : Bool × Fin 2 × Fin 7 => credA c p.1 p.2.1 (p.2.2.val + 1) := by
    rw [hops_all, bigSep_map]
    exact bigSep_congr fun p _ => by
      show credA c (hd (hopIx p.1 p.2.1 p.2.2.val)) (hq (hopIx p.1 p.2.1 p.2.2.val)) (hopIx p.1 p.2.1 p.2.2.val / 4 + 1) = _
      rw [hd_ix, hq_ix, hg_ix]
  rw [hO, Pipeline.launchCred_sum]
  iintro ⟨⟨H, H0⟩, H1⟩
  ihave H0 := (hb false) $$ H0
  ihave H1 := (hb true) $$ H1
  ihave H := (show (bigSep (Finset.Ico 0 28) (fun k => Pipeline.launchCred (fun d => hopT d k) c) : sProp 𝕄) ⊢ bigSep (Finset.Ico 0 28) (fun k => credA c (hd k) (hq k) (k / 4 + 1)) from bigSep_mono fun k _ => hh k) $$ H
  ihave H := (Entails.of_eq hix) $$ H
  isplitl [H0 H1]
  · rw [← tallyAt_add (barCell c) 0 1 1]
    iapply (cred_add _ _).2
    isplitl [H0] <;> iassumption
  · iapply (lanes7 (credA c)); iexact H

/-! ## The theorem's side conditions -/

theorem pos_lanes (c : Dev nD) : (bigSep Finset.univ fun p : Slot => atPos ER (kcell (c, some p)) 0 ∅ 0 : sProp 𝕄) ⊢ All4 (fun d q => rng 1 5 (posA c d q)) := by
  have e : ∀ d q, (rng 1 5 (posA c d q) : sProp 𝕄) = bigSep Finset.univ fun s : Fin 4 => atPos ER (rcell c d s q) 0 ∅ 0 := fun d q => by
    rw [← rng_slots 1]
    refine bigSep_congr fun a ha => ?_
    obtain ⟨h1, h2⟩ := Finset.mem_Ico.mp ha
    unfold posA
    rw [show rnd a = 0 by interval_cases a <;> rfl]
  rw [show (fun (d : Bool) (q : Fin 2) => (rng 1 5 (posA c d q) : sProp 𝕄)) = fun d q => bigSep Finset.univ fun s : Fin 4 => atPos ER (rcell c d s q) 0 ∅ 0 from
    funext fun d => funext fun q => e d q]
  exact (slots_lanes fun p : Slot => atPos ER (kcell (c, some p)) 0 ∅ 0).1

theorem open_at (p : Dev nD × Option Slot) : (Opened : sProp 𝕄) ⊢ reached ER (kcell p) 0 := by
  unfold Opened
  exact show (bigSep Finset.univ (fun p : Dev nD × Option Slot => reached ER (kcell p) 0) : sProp 𝕄) ⊢ reached ER (kcell p) 0 from bigSep_elim (Finset.mem_univ p)

theorem open_lanes (c : Dev nD) : (Opened : sProp 𝕄) ⊢ All4 (fun d q => rng 1 5 (openA c d q)) := by
  have h : ∀ d q, (Opened : sProp 𝕄) ⊢ rng 1 5 (openA c d q) := fun d q => by
    unfold rng
    refine BIBase.Entails.trans (BI.bigSep_of_persistent (Finset.Ico 1 5) Opened) (bigSep_mono fun a ha => ?_)
    obtain ⟨h1, h2⟩ := Finset.mem_Ico.mp ha
    unfold openA
    rw [show rnd a = 0 by interval_cases a <;> rfl]
    exact open_at (c, some (d, sl a, q))
  unfold All4
  iintro #H
  isplitr
  · isplitr
    · iapply (h false 0); iexact H
    · iapply (h true 0); iexact H
  · isplitr
    · iapply (h false 1); iexact H
    · iapply (h true 1); iexact H

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (iprop(|={Set.univ}=> (Start m c ∗ emp)) : sProp 𝕄) := by
  have hat : (bigSep Finset.univ fun o : Option Slot => atPos ER (kcell (c, o)) 0 ∅ 0 : sProp 𝕄)
    = iprop(atPos ER (barCell c) 0 ∅ 0 ∗ bigSep Finset.univ fun p : Slot => atPos ER (kcell (c, some p)) 0 ∅ 0) := bigOption _
  rw [Pipeline.unscopedRestP_none, unscopedRest0_eq]
  unfold G' Start Invs payT Bar Ins
  rw [hat]
  iintro ⟨⟨Hx, Hw, Ho⟩, #Hlev, Hcr, -, ⟨%K, %κ, ⟨#HC, #HI, #HO⟩, ⟨HV, HS⟩, ⟨Hab, Hat⟩, ⟨Hf, Ht⟩, Hd⟩⟩
  ihave Hcr := (creds (F := F) c) $$ Hcr
  icases Hcr with ⟨Hcb, Hcr⟩
  ihave Hat := (pos_lanes c) $$ Hat
  ihave Hd := (lanes7 (dutT c)) $$ Hd
  imodintro
  isplitl
  · iexists K, κ
    isplitr
    · isplitr; · unfold Cells; iexact HC
      isplitr; · iexact HI
      iexact Hlev
    isplitl [Hx Hw]
    · isplitl [Hx]
      · rw [owns_whole]; iexact Hx
      · rw [owns_whole]; iexact Hw
    isplitl [Ho]
    · unfold anyOf; iexists (m ((c : Thread nD τ).loc main_v1)); rw [owns_whole]; iexact Ho
    isplitl [HV]; · iexact HV
    isplitl [HS]; · iexact HS
    isplitl [Hat Hcr Hd]
    · unfold LaneG
      iapply (All4_join (fun d q => rng 1 5 (posA c d q)) fun d q => iprop(rng 1 8 (credA c d q) ∗ rng 1 8 (dutT c d q) ∗ rng 1 5 (openA c d q)))
      isplitl [Hat]; · iexact Hat
      iapply (All4_join (fun d q => rng 1 8 (credA c d q)) fun d q => iprop(rng 1 8 (dutT c d q) ∗ rng 1 5 (openA c d q)))
      isplitl [Hcr]; · iexact Hcr
      iapply (All4_join (fun d q => rng 1 8 (dutT c d q)) fun d q => rng 1 5 (openA c d q))
      isplitl [Hd]; · iexact Hd
      iapply (open_lanes c); iexact HO
    isplitl [Hf]
    · isplitl [Hf]; · iexact Hf
      iapply (open_at (tgt true c, none)); iexact HO
    isplitl [Ht]
    · isplitl [Ht]; · iexact Ht
      iapply (open_at (tgt false c, none)); iexact HO
    isplitl [Hcb] <;> iassumption
  · iempintro

theorem bufs_eq (c : Dev nD) : (Pipeline.scopedRest (Ix := ℕ) (Name := ℕ) (U := UU) (Lvl := ℕ) (Val := Elt F) (cfg0.spec) c : sProp 𝕄) ⊣⊢ Bufs c := by
  rw [scopedRest0_eq]
  unfold Bufs anyOf
  rw [show bufM false = Memref.whole cc0_scratch4 from rfl, show bufM true = Memref.whole cc0_scratch5 from rfl]
  simp only [owns_whole]
  constructor
  · iintro ⟨a, b, e, f, g, h⟩
    isplitl [a b e f]
    · isplitl [a]; · iexact a
      isplitl [b]; · iexact b
      isplitl [e] <;> iassumption
    isplitl [g] <;> iassumption
  · iintro ⟨⟨a, b, e, f⟩, g, h⟩
    isplitl [a]; · iexact a
    isplitl [b]; · iexact b
    isplitl [e]; · iexact e
    isplitl [f]; · iexact f
    isplitl [g] <;> iassumption

/-! ## The pipeline's data: no windows, one point -/

def dats (_ : Fin 1) (c : Dev nD) : Dat τ (Elt F) ℕ ℕ UU ℕ cfg0 c where
  A w := w.elim0
  after w _ := w.elim0
  Φ t := match t with
    | ⟨0, _⟩ => iprop(Start m c ∗ Bufs c)
    | ⟨_ + 1, _⟩ => End m c
  q _ := fullShare
  owed t := match t with
    | ⟨0, _⟩ => O₀ c
    | ⟨_ + 1, _⟩ => 0

theorem body_obligation (c : Dev nD) : BodyObligation (dats (F := F) m 0 c) (defs₀ (F := F)) 𝒱₀ 0 Set.univ := fun t => by
  have hb : defs₀ (F := F) .tc cfg0.body (cfg0.bodyArgs t (cfg0.slots t)) = body := body_eq t
  rw [hb]
  obtain rfl : t = t0_0 := fin_N0 t
  have hE : ∀ Φ : Fin cfg0.W → sProp 𝕄, bigSep Finset.univ Φ = (iprop(emp) : sProp 𝕄) := fun Φ => by
    rw [show (Finset.univ : Finset (Fin cfg0.W)) = ∅ from rfl, bigSep_empty]; rfl
  rw [hE, hE]
  show iprop((Start m c ∗ Bufs c) ∗ Pipeline.owesWithin c (O₀ c) _ ∗ emp) ⊢ WP c body fun _ => iprop(End m c ∗ Pipeline.owesWithin c 0 _ ∗ emp)
  have hd := device_spec (F := F) m c
  iintro ⟨⟨HS, HB⟩, ⟨%W, -, HO⟩, -⟩
  iapply (WP_last hd) $$ [HS HB HO]
  · isplitl [HS]; · iexact HS
    isplitl [HB]; · iexact HB
    unfold Owes0; iexists W; iexact HO
  iintro %_ ⟨HE, HO⟩
  isplitl [HE]; · iexact HE
  isplitl [HO]
  · unfold Ow
    rw [Orem_end]
    icases HO with ⟨%W', HO⟩
    iexists W'
    isplitr; · ipureintro; exact fun _ _ => Or.inl trivial
    iexact HO
  · iempintro

theorem waits (c : Dev nD) : (levAts L lv : sProp 𝕄) ⊢ Pipeline.cellsWaits cfgs (dats m) 0 0 c :=
  Pipeline.cellsWaits_intro cfgs (dats m) 0 0 c fun w s t => w.elim0

/-! ## The run -/

def Post (c : Dev nD) : sProp 𝕄 := iprop((Ins m c ∗ owns (c : Thread nD τ) oM fullShare (outF m c)) ∗ unscopedSems0 c)

theorem exit_intro (c : Dev nD) : End m c ⊢ (iprop(Post m c ∗ Pipeline.ownSems0 osem c ∗ Pipeline.scopedRest cfg0.spec c) : sProp 𝕄) := by
  rw [ownSems0_eq]
  unfold End Post
  rw [unscopedSems0_eq]
  iintro ⟨H, Hb, HS, HB⟩
  isplitl [H Hb]
  · isplitl [H] <;> iassumption
  isplitl [HS]; · iexact HS
  iapply (bufs_eq c).2; iexact HB

/-- What the memory of device `c` holds after the run. -/
def Done (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1))
    ∧ s.mem ((c : Thread nD τ).loc main_v1) = outF m c

theorem run_main (ρ : Dev nD → PrngReg) :
    θ_run (defs (F := F)) (onTc (τ := τ) (main (F := F))) ⟨m, fun _ => 0, ρ⟩ (fun r => (∀ c, Done m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      ihave HX := (show (BI.own (((Emb.inl : Emb UB (UB × Counters)).trans embR) (initOf kcells ktoks)) : sProp 𝕄) ⊢ BI.own (ER (initOf kcells ktoks)) from BIBase.Entails.rfl) $$ HX
      imod (fund_ghost m) $$ HX with HG
      imodintro
      isplitl [HP] <;> iassumption)
    (hglob := glob m)
    (hA := fun _ w => w.elim0) (hpf := fun _ k => k.elim0)
    (X := Start m) (Y := Post m) (Z := fun _ => iprop(emp))
    (hX := start_intro m ρ)
    (hin := fun c => by
      show _ ⊢ iprop(Start m c ∗ Bufs c)
      iintro ⟨HS, -, HB⟩
      isplitl [HS]; · iexact HS
      iapply (bufs_eq c).1; iexact HB)
    (hout := exit_intro m)
    (QY := fun c s => Done m c s ∧ ∀ sm : SemLoc sig, sm.isScoped .tc = false → s.sem ((c.tc : Thread nD τ), sm) = 0)
    (hY := fun c s' => by
      unfold Post Ins
      simp only [owns_whole]
      iintro ⟨⟨⟨⟨Hx, Hw⟩, Ho⟩, Hu⟩, -, HSI⟩
      icombine HSI Hx gives %hx
      icombine HSI Hw gives %hw
      icombine HSI Ho gives %ho
      imod (Pipeline.unscopedSems0_read (X := unscopedSems0 c) (c := c) fupd_intro s') $$ [Hu HSI] with ⟨%hs, HSI⟩
      · isplitl [Hu] <;> iassumption
      imodintro
      isplitr
      · ipureintro
        exact ⟨⟨⟨Buf.eq_of_forall_mem_univ hx, Buf.eq_of_forall_mem_univ hw⟩, Buf.eq_of_forall_mem_univ ho⟩, hs⟩
      iexact HSI)
    (hQ := fun _ h hs => ⟨fun c => (h c).2.2.1, sem_eq_zero hs fun c => (h c).2.2.2⟩)

end Cert.KernelIdeal.Ring2
end
-- ==== Proof.Value.lean ====
/-
The values: what the kernel's output and the reference's result are at an index, and that they agree.
-/
module

public import proofs.«01_k».proof.Proof.Parts
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.KernelIdeal.Ring2

open Idealize.ShloMosaic Idealize.ShloMosaic.TcCoe
open Cert.KernelIdeal Cert.KernelIdeal.Gen
open Idealize.ShloMosaic.ValueIdx (ix2)
open scoped BigOperators

/-- The activation, with the cube's factors in the kernel's order. -/
def act (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * y * y * y)))

theorem gelu_apply (Y : FVec Ideal S128x1024 .f32) (j : S128x1024.Idx) : gelu Y j = act (Y j) := rfl

/-- A row of the kernel's output: the activation of the row of products. -/
theorem outR_apply (a : FVec Ideal S128x4096 .bf16) (b : FVec Ideal S4096x1024 .bf16) (r : Fin 128) (l : Fin 1024) :
    outR a b (ix2 r l) = act (∑ k : Fin 4096, (a (ix2 r k) * b (ix2 k l) : EReal)) := by
  unfold outR
  rw [gelu_apply]
  refine congrArg act ?_
  show FloatOps.matmul (DotDims.plain 128 4096 1024) none a b (constant S128x1024 .f32 0x00000000#32) (ix2 r l) = _
  rw [Ideal.matmul_plain_apply]
  show Ideal.ofBits .f32 0x00000000#32 + _ = _
  rw [Ideal.ofBits_zero_f32, zero_add]

/-- The reference's result from its dot product. -/
def refAct (Y : FVec Ideal Cert.ReferenceIdeal.S4096x8192 .f32) : FVec Ideal Cert.ReferenceIdeal.S4096x8192 .f32 :=
  open Cert.ReferenceIdeal Cert.ReferenceIdeal.Gen in
  mulf (mulf (broadcastInDim S4096x8192 ![] bcast_S_S4096x8192 (constant S_ .f32 0x3F000000#32)) Y)
    (addf (broadcastInDim S4096x8192 ![] bcast_S_S4096x8192 (constant S_ .f32 0x3F800000#32))
      (Host.tanh (mulf (broadcastInDim S4096x8192 ![] bcast_S_S4096x8192 (constant S_ .f32 0x3F4C422A#32))
        (addf Y (mulf (broadcastInDim S4096x8192 ![] bcast_S_S4096x8192 (constant S_ .f32 0x3D372713#32)) (mulf (mulf Y Y) Y))))))

theorem refAct_apply (Y : FVec Ideal Cert.ReferenceIdeal.S4096x8192 .f32) (j : Cert.ReferenceIdeal.S4096x8192.Idx) : refAct Y j = act (Y j) := by
  show Ideal.ofBits .f32 0x3F000000#32 * Y j * (Ideal.ofBits .f32 0x3F800000#32
    + Ideal.tanh (Ideal.ofBits .f32 0x3F4C422A#32 * (Y j + Ideal.ofBits .f32 0x3D372713#32 * (Y j * Y j * Y j)))) = act (Y j)
  unfold act
  rw [← mul_assoc, ← mul_assoc]

/-- The reference's result from its arguments. -/
def refF (x : Vec Ideal Cert.ReferenceIdeal.S4096x4096 .bf16) (w : Vec Ideal Cert.ReferenceIdeal.S4096x8192 .f32) : FVec Ideal Cert.ReferenceIdeal.S4096x8192 .f32 :=
  refAct (Host.dotGeneral (φ₁ := .f32) (φ₂ := .f32) Cert.ReferenceIdeal.dot_S4096x4096_S4096x8192_S4096x8192_1_0_0_1_n_n none
    (extf (s := Cert.ReferenceIdeal.S4096x4096) (φ := .bf16) .f32 x Cert.ReferenceIdeal.Gen.bitsLt_bf16_f32) w)

theorem refF_apply (x : Vec Ideal Cert.ReferenceIdeal.S4096x4096 .bf16) (w : Vec Ideal Cert.ReferenceIdeal.S4096x8192 .f32) (r : Fin 4096) (l : Fin 8192) :
    refF x w (ix2 r l) = act (∑ k : Fin 4096, (x (ix2 r k) * w (ix2 k l) : EReal)) := by
  unfold refF
  rw [refAct_apply]
  refine congrArg act ?_
  exact StackMember.dotGeneral_plain_apply (m := 4096) (k := 4096) (n := 8192) none (extf (s := Cert.ReferenceIdeal.S4096x4096) (φ := .bf16) .f32 x Cert.ReferenceIdeal.Gen.bitsLt_bf16_f32) w r l

/-- Row `r` of a device's `k`-th row block of `x` is its row `128 k + r`. -/
theorem xrow_apply (m : (ℓ : Loc nD τ sig) → Buf (Elt Ideal) ℓ) (o : Dev nD) (k : Fin 4) (r : Fin 128) (l : Fin 4096) :
    xrow m o k (ix2 r l) = xdev m o (ix2 ⟨128 * k.val + r.val, by omega⟩ l) := by
  show xdev m o ((xrM k).view.emb (ix2 r l)) = _
  congr 1
  funext a
  apply Fin.ext
  match a with
  | ⟨0, _⟩ => show 128 * k.val + 1 * r.val = 128 * k.val + r.val; omega
  | ⟨1, _⟩ => show 0 + 1 * l.val = l.val; omega

/-- A device's output is its block of columns of the reference's result. -/
theorem value (m : (ℓ : Loc nD τ sig) → Buf (Elt Ideal) ℓ)
    (x : Vec Ideal Cert.ReferenceIdeal.S4096x4096 .bf16) (w : Vec Ideal Cert.ReferenceIdeal.S4096x8192 .f32)
    (hx : ∀ c : Dev nD, m ((c : Thread nD τ).loc main_arg0) = Layout.block ⟨2, ![512, 4096]⟩ ⟨2, ![4096, 4096]⟩ 0 8 c x)
    (hw : ∀ c : Dev nD, m ((c : Thread nD τ).loc main_arg1) = Layout.block ⟨2, ![4096, 1024]⟩ ⟨2, ![4096, 8192]⟩ 1 8 c w) (c : Dev nD) :
    outF m c = Layout.block ⟨2, ![4096, 1024]⟩ ⟨2, ![4096, 8192]⟩ 1 8 c (refF x w) := by
  funext i
  have h0 : (i 0).val < 4096 := (i 0).2
  have h1 : (i 1).val < 1024 := (i 1).2
  have hc : c.val < 8 := c.2
  have hi : ∀ h : Layout.Tiles ⟨2, ![4096, 1024]⟩ ⟨2, ![4096, 8192]⟩ 1 8,
      h.idx c i = ix2 (n0 := 4096) (n1 := 8192) ⟨(i 0).val, h0⟩ ⟨c.val * 1024 + (i 1).val, by omega⟩ := fun h => by
    funext a
    apply Fin.ext
    match a with
    | ⟨0, _⟩ => exact (Layout.idx_cols_val h c i).1
    | ⟨1, _⟩ => exact (Layout.idx_cols_val h c i).2
  rw [Layout.block_apply, hi, refF_apply]
  show outR (xrow m ⟨(i 0).val / 512, _⟩ ⟨(i 0).val % 512 / 128, _⟩) (wconv m c) (ix2 ⟨(i 0).val % 128, _⟩ (⟨(i 1).val, h1⟩ : Fin 1024)) = _
  rw [outR_apply]
  refine congrArg act (Finset.sum_congr rfl fun k _ => ?_)
  refine congrArg₂ (fun a b : EReal => a * b) ?_ ?_
  · rw [xrow_apply]
    unfold xdev
    rw [hx, Layout.block_apply]
    refine congrArg x ?_
    funext a
    apply Fin.ext
    match a with
    | ⟨0, _⟩ =>
      refine (Layout.idx_rows_val _ _ _).1.trans ?_
      show (i 0).val / 512 * 512 + (128 * ((i 0).val % 512 / 128) + (i 0).val % 128) = (i 0).val
      omega
    | ⟨1, _⟩ => exact (Layout.idx_rows_val _ _ _).2
  · show m ((c : Thread nD τ).loc main_arg1) (ix2 k (⟨(i 1).val, h1⟩ : Fin 1024)) = _
    rw [hw, Layout.block_apply]
    refine congrArg w ?_
    funext a
    apply Fin.ext
    match a with
    | ⟨0, _⟩ => exact (Layout.idx_cols_val _ _ _).1
    | ⟨1, _⟩ => exact (Layout.idx_cols_val _ _ _).2

end Cert.KernelIdeal.Ring2
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as printed runs, keeps its arguments and ends with every counter at zero: its run at bit patterns. -/
theorem frame_kernel : Cert.quiescent_Kernel := fun m ρ _ =>
  (θ_run Cert.KernelIdeal.defs _ _).mono (fun _ h => ⟨fun c => (h.1 c).1, h.2⟩) (Cert.KernelIdeal.Ring2.run_main (F := Bits) m ρ)

/-- The same of its idealization. -/
theorem frame_kernelIdeal : Cert.quiescent_KernelIdeal := fun m ρ _ =>
  (θ_run Cert.KernelIdeal.defs _ _).mono (fun _ h => ⟨fun c => (h.1 c).1, h.2⟩) (Cert.KernelIdeal.Ring2.run_main (F := Ideal) m ρ)

/-- The reference is a list of host operations and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with its block of columns of the reference's result. -/
theorem algebraic : Cert.algebraic_KernelIdeal_ReferenceIdeal := by
  intro m ρ m' ρ' _ hagree
  refine ⟨Cert.KernelIdeal.Ring2.refF
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).2.trans (Cert.KernelIdeal.Ring2.value m _ _ (fun c => (hagree c).1) (fun c => (hagree c).2) c), (h.1 c).1⟩)
      (Cert.KernelIdeal.Ring2.run_main (F := Ideal) m ρ)
  · exact (θ_run Cert.ReferenceIdeal.defs _ _).mono (fun _ h => h 0) (Cert.ReferenceIdeal.Value.run (F := Ideal) m' ρ')

/-- Every claim, after the facts the programs state. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
